-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v5_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v3_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x2048 : Shape := ⟨3, ![32, 1, 2048]⟩
abbrev S32x1x2x128 : Shape := ⟨4, ![32, 1, 2, 128]⟩
abbrev S32x16384x2x128 : Shape := ⟨4, ![32, 16384, 2, 128]⟩
abbrev S2 : Shape := ⟨1, ![2]⟩
abbrev S32x16x128 : Shape := ⟨3, ![32, 16, 128]⟩
abbrev S32x1x256 : Shape := ⟨3, ![32, 1, 256]⟩
abbrev S32x2x16384x128 : Shape := ⟨4, ![32, 2, 16384, 128]⟩
abbrev S1x16x128 : Shape := ⟨3, ![1, 16, 128]⟩
abbrev S1x1x256 : Shape := ⟨3, ![1, 1, 256]⟩
abbrev S1x2x2048x128 : Shape := ⟨4, ![1, 2, 2048, 128]⟩
abbrev S16x1 : Shape := ⟨2, ![16, 1]⟩
abbrev S16x256 : Shape := ⟨2, ![16, 256]⟩
abbrev S1 : Shape := ⟨1, ![1]⟩
abbrev S8x256 : Shape := ⟨2, ![8, 256]⟩
abbrev S1x8x256 : Shape := ⟨3, ![1, 8, 256]⟩
abbrev S1x1x1 : Shape := ⟨3, ![1, 1, 1]⟩
abbrev S16x128 : Shape := ⟨2, ![16, 128]⟩
abbrev S1x1x2048x128 : Shape := ⟨4, ![1, 1, 2048, 128]⟩
abbrev S2048x128 : Shape := ⟨2, ![2048, 128]⟩
abbrev S2048x256 : Shape := ⟨2, ![2048, 256]⟩
abbrev S16x2048 : Shape := ⟨2, ![16, 2048]⟩
abbrev S16 : Shape := ⟨1, ![16]⟩
abbrev S48x2048 : Shape := ⟨2, ![48, 2048]⟩
abbrev S48x256 : Shape := ⟨2, ![48, 256]⟩
abbrev S1x256 : Shape := ⟨2, ![1, 256]⟩
abbrev S8x128 : Shape := ⟨2, ![8, 128]⟩

abbrev nBuf : Space → Nat
  | .hbm => 15
  | .vmem => 19
  | .smem => 2
  | _ => 0

abbrev bufTy : (tb : Table) → Fin (tcTables nBuf tb) → BufTy
  | .hbm, ⟨0, _⟩ => ⟨S32x1x2048, .bf16⟩
  | .hbm, ⟨1, _⟩ => ⟨S32x1x2x128, .bf16⟩
  | .hbm, ⟨2, _⟩ => ⟨S32x1x2x128, .bf16⟩
  | .hbm, ⟨3, _⟩ => ⟨S32x16384x2x128, .fp8e4m3⟩
  | .hbm, ⟨4, _⟩ => ⟨S2, .f32⟩
  | .hbm, ⟨5, _⟩ => ⟨S32x16384x2x128, .fp8e4m3⟩
  | .hbm, ⟨6, _⟩ => ⟨S2, .f32⟩
  | .hbm, ⟨7, _⟩ => ⟨S32x16x128, .bf16⟩
  | .hbm, ⟨8, _⟩ => ⟨S32x1x256, .bf16⟩
  | .hbm, ⟨9, _⟩ => ⟨S32x1x256, .bf16⟩
  | .hbm, ⟨10, _⟩ => ⟨S32x2x16384x128, .fp8e4m3⟩
  | .hbm, ⟨11, _⟩ => ⟨S32x2x16384x128, .fp8e4m3⟩
  | .hbm, ⟨12, _⟩ => ⟨S32x16x128, .bf16⟩
  | .hbm, ⟨13, _⟩ => ⟨S32x1x256, .fp8e4m3⟩
  | .hbm, ⟨14, _⟩ => ⟨S32x1x256, .fp8e4m3⟩
  | .local _ .vmem, ⟨0, _⟩ => ⟨S1x16x128, .bf16⟩
  | .local _ .vmem, ⟨1, _⟩ => ⟨S1x16x128, .bf16⟩
  | .local _ .vmem, ⟨2, _⟩ => ⟨S1x1x256, .bf16⟩
  | .local _ .vmem, ⟨3, _⟩ => ⟨S1x1x256, .bf16⟩
  | .local _ .vmem, ⟨4, _⟩ => ⟨S1x1x256, .bf16⟩
  | .local _ .vmem, ⟨5, _⟩ => ⟨S1x1x256, .bf16⟩
  | .local _ .vmem, ⟨6, _⟩ => ⟨S1x2x2048x128, .fp8e4m3⟩
  | .local _ .vmem, ⟨7, _⟩ => ⟨S1x2x2048x128, .fp8e4m3⟩
  | .local _ .vmem, ⟨8, _⟩ => ⟨S1x2x2048x128, .fp8e4m3⟩
  | .local _ .vmem, ⟨9, _⟩ => ⟨S1x2x2048x128, .fp8e4m3⟩
  | .local _ .vmem, ⟨10, _⟩ => ⟨S1x16x128, .bf16⟩
  | .local _ .vmem, ⟨11, _⟩ => ⟨S1x16x128, .bf16⟩
  | .local _ .vmem, ⟨12, _⟩ => ⟨S1x1x256, .fp8e4m3⟩
  | .local _ .vmem, ⟨13, _⟩ => ⟨S1x1x256, .fp8e4m3⟩
  | .local _ .vmem, ⟨14, _⟩ => ⟨S1x1x256, .fp8e4m3⟩
  | .local _ .vmem, ⟨15, _⟩ => ⟨S1x1x256, .fp8e4m3⟩
  | .local _ .vmem, ⟨16, _⟩ => ⟨S16x1, .f32⟩
  | .local _ .vmem, ⟨17, _⟩ => ⟨S16x1, .f32⟩
  | .local _ .vmem, ⟨18, _⟩ => ⟨S16x256, .f32⟩
  | .local _ .smem, ⟨0, _⟩ => ⟨S2, .f32⟩
  | .local _ .smem, ⟨1, _⟩ => ⟨S2, .f32⟩
  | _, _ => ⟨S32x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 8], ![false, false]⟩

def k0_cond4 (i : grid0.Coords) : BitVec 1 :=
  let arg1 : BitVec 32 := BitVec.ofNat 32 (i 1).val
  let c7_i32 : BitVec 32 := 7#32
  let v100 : BitVec 1 := Scalar.cmpi .eq arg1 c7_i32
  let v101 : BitVec 32 := Scalar.extui v100
  let c0_i32_36 : BitVec 32 := 0#32
  let v102 : BitVec 1 := Scalar.cmpi .ne v101 c0_i32_36
  v102

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S32x1x2048 : Shape := ⟨3, ![32, 1, 2048]⟩
abbrev S32x1x2x128 : Shape := ⟨4, ![32, 1, 2, 128]⟩
abbrev S32x16384x2x128 : Shape := ⟨4, ![32, 16384, 2, 128]⟩
abbrev S2 : Shape := ⟨1, ![2]⟩
abbrev S32x2x8x128 : Shape := ⟨4, ![32, 2, 8, 128]⟩
abbrev S32x1x256 : Shape := ⟨3, ![32, 1, 256]⟩
abbrev S32x16x128 : Shape := ⟨3, ![32, 16, 128]⟩
abbrev S1 : Shape := ⟨1, ![1]⟩
abbrev S32x1x128 : Shape := ⟨3, ![32, 1, 128]⟩
abbrev S32x1x8x128 : Shape := ⟨4, ![32, 1, 8, 128]⟩
abbrev S32x8x128 : Shape := ⟨3, ![32, 8, 128]⟩
abbrev S32x16384x1x128 : Shape := ⟨4, ![32, 16384, 1, 128]⟩
abbrev S32x16384x128 : Shape := ⟨3, ![32, 16384, 128]⟩
abbrev S32x8x16384 : Shape := ⟨3, ![32, 8, 16384]⟩
abbrev S32x8x1 : Shape := ⟨3, ![32, 8, 1]⟩
abbrev S32x8 : Shape := ⟨2, ![32, 8]⟩

abbrev nBuf : Space → Nat
  | .hbm => 13
  | .vmem => 8
  | .smem => 2
  | _ => 0

abbrev bufTy : (tb : Table) → Fin (tcTables nBuf tb) → BufTy
  | .hbm, ⟨0, _⟩ => ⟨S32x1x2048, .bf16⟩
  | .hbm, ⟨1, _⟩ => ⟨S32x1x2x128, .bf16⟩
  | .hbm, ⟨2, _⟩ => ⟨S32x1x2x128, .bf16⟩
  | .hbm, ⟨3, _⟩ => ⟨S32x16384x2x128, .fp8e4m3⟩
  | .hbm, ⟨4, _⟩ => ⟨S2, .f32⟩
  | .hbm, ⟨5, _⟩ => ⟨S32x16384x2x128, .fp8e4m3⟩
  | .hbm, ⟨6, _⟩ => ⟨S2, .f32⟩
  | .hbm, ⟨7, _⟩ => ⟨S32x2x8x128, .bf16⟩
  | .hbm, ⟨8, _⟩ => ⟨S32x1x256, .bf16⟩
  | .hbm, ⟨9, _⟩ => ⟨S32x1x256, .bf16⟩
  | .hbm, ⟨10, _⟩ => ⟨S32x16x128, .bf16⟩
  | .hbm, ⟨11, _⟩ => ⟨S32x1x256, .fp8e4m3⟩
  | .hbm, ⟨12, _⟩ => ⟨S32x1x256, .fp8e4m3⟩
  | .local _ .vmem, ⟨0, _⟩ => ⟨S32x2x8x128, .bf16⟩
  | .local _ .vmem, ⟨1, _⟩ => ⟨S32x1x256, .bf16⟩
  | .local _ .vmem, ⟨2, _⟩ => ⟨S32x1x256, .bf16⟩
  | .local _ .vmem, ⟨3, _⟩ => ⟨S32x16384x2x128, .fp8e4m3⟩
  | .local _ .vmem, ⟨4, _⟩ => ⟨S32x16384x2x128, .fp8e4m3⟩
  | .local _ .vmem, ⟨5, _⟩ => ⟨S32x16x128, .bf16⟩
  | .local _ .vmem, ⟨6, _⟩ => ⟨S32x1x256, .fp8e4m3⟩
  | .local _ .vmem, ⟨7, _⟩ => ⟨S32x1x256, .fp8e4m3⟩
  | .local _ .smem, ⟨0, _⟩ => ⟨S2, .f32⟩
  | .local _ .smem, ⟨1, _⟩ => ⟨S2, .f32⟩
  | _, _ => ⟨S32x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16384x2x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16384x2x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRuns.lean ====
module

public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import Idealize.ShloMosaic.Lib.Claim
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point of the grid computes -/

/-- Word `k` of a two-word scale array, as the kernel reads it. -/
abbrev sc0 (x : Vec F S2 .f32) : Elt F .f32 :=
  View.ld x (Rect.unit (s := S2) ![0] S1.size inb_S2_S1_0) (Shape.Idx.first (numel1_S1.symm ▸ Nat.one_pos))
/-- Word 1 of a two-word scale array, as the kernel reads it. -/
abbrev sc1 (x : Vec F S2 .f32) : Elt F .f32 :=
  View.ld x (Rect.unit (s := S2) ![1] S1.size inb_S2_S1_1) (Shape.Idx.first (numel1_S1.symm ▸ Nat.one_pos))

/-- Head 0's block of a cache window. -/
abbrev hd0 (x : Vec F S1x2x2048x128 .fp8e4m3) : Vec F S1x1x2048x128 .fp8e4m3 :=
  View.ld x (Rect.unit (s := S1x2x2048x128) ![0, 0, 0, 0] S1x1x2048x128.size inb_S1x2x2048x128_S1x1x2048x128_0_0_0_0)
/-- Head 1's block of a cache window. -/
abbrev hd1 (x : Vec F S1x2x2048x128 .fp8e4m3) : Vec F S1x1x2048x128 .fp8e4m3 :=
  View.ld x (Rect.unit (s := S1x2x2048x128) ![0, 1, 0, 0] S1x1x2048x128.size inb_S1x2x2048x128_S1x1x2048x128_0_1_0_0)

/-- The kernel's test that a scale `s` is a power of two in its range; `p` is the largest match found. -/
abbrev okS (p s : F .f32) : BitVec 1 :=
  Scalar.andi (Scalar.andi (Scalar.cmpf .ogt p (Scalar.ofBits .f32 0x00000000#32))
    (Scalar.cmpf .oge s (Scalar.ofBits .f32 0x1F800000#32))) (Scalar.cmpf .ole s (Scalar.ofBits .f32 0x5F800000#32))

/-- Whether the kernel folds the scales into the softmax: all four pass the test. -/
abbrev foldBit (x0 x1 : Vec F S2 .f32) : BitVec 1 :=
  Scalar.andi (Scalar.andi (Scalar.andi (okS (k0_pay42 (sc0 x0)) (sc0 x0)) (okS (k0_pay43 (sc1 x0)) (sc1 x0)))
    (okS (k0_pay44 (sc0 x1)) (sc0 x1))) (okS (k0_pay45 (sc1 x1)) (sc1 x1))

/-- The lane numbers the block-diagonal query is laid out by. -/
abbrev laneIota : IVec S16x256 32 := iota .tc S16x256 32 [1] iota_S16x256_d1_w32
/-- The row numbers the block-diagonal query is laid out by. -/
abbrev rowIota : IVec S16x256 32 := iota .tc S16x256 32 [0] iota_S16x256_d0_w32
/-- The block-diagonal query: head `h`'s rows in head `h`'s lanes. -/
abbrev qbd (x2 : Vec F S1x16x128 .bf16) : FVec F S16x256 .bf16 := k0_pay1 (k0_pay46 x2) laneIota rowIota

/-- The running maximum, sum and accumulator. -/
abbrev St (F : FTy → Type) [FloatOps F] : Type := Vec F S16x1 .f32 × Vec F S16x1 .f32 × Vec F S16x256 .f32

/-- The state a new batch row starts from. -/
abbrev st0 : St F := (k0_pay2, k0_pay3, k0_pay4)

/-- One cache block taken in, the scales folded. -/
abbrev cacheF (x0 : Vec F S2 .f32) (x2 : Vec F S1x16x128 .bf16) (x5 x6 : Vec F S1x2x2048x128 .fp8e4m3) (s : St F) : St F :=
  (k0_pay7 (k0_pay25 (sc0 x0) (sc1 x0) (qbd x2) (hd0 x5) (hd1 x5) s.1),
   k0_pay5 (k0_pay26 (sc0 x0) (sc1 x0) (qbd x2) (hd0 x5) (hd1 x5) s.1) (k0_pay27 (sc0 x0) (sc1 x0) (qbd x2) (hd0 x5) (hd1 x5) s.1) s.2.1,
   k0_pay6 (k0_pay23 (hd0 x6) (hd1 x6)) (k0_pay26 (sc0 x0) (sc1 x0) (qbd x2) (hd0 x5) (hd1 x5) s.1) (k0_pay27 (sc0 x0) (sc1 x0) (qbd x2) (hd0 x5) (hd1 x5) s.1) s.2.2)

/-- One cache block taken in, dequantised first. -/
abbrev cacheN (x0 x1 : Vec F S2 .f32) (x2 : Vec F S1x16x128 .bf16) (x5 x6 : Vec F S1x2x2048x128 .fp8e4m3) (s : St F) : St F :=
  (k0_pay12 (k0_pay30 (sc0 x0) (sc1 x0) (qbd x2) (hd0 x5) (hd1 x5) s.1),
   k0_pay10 (k0_pay29 (sc0 x0) (sc1 x0) (qbd x2) (hd0 x5) (hd1 x5)) s.1 (k0_pay30 (sc0 x0) (sc1 x0) (qbd x2) (hd0 x5) (hd1 x5) s.1) s.2.1,
   k0_pay11 (k0_pay28 (sc0 x1) (sc1 x1) (hd0 x6) (hd1 x6)) (k0_pay29 (sc0 x0) (sc1 x0) (qbd x2) (hd0 x5) (hd1 x5)) s.1 (k0_pay30 (sc0 x0) (sc1 x0) (qbd x2) (hd0 x5) (hd1 x5) s.1) s.2.2)

/-- One cache block taken in. -/
def cacheStep (x0 x1 : Vec F S2 .f32) (x2 : Vec F S1x16x128 .bf16) (x5 x6 : Vec F S1x2x2048x128 .fp8e4m3) (s : St F) : St F :=
  if foldBit x0 x1 = 1#1 then cacheF x0 x2 x5 x6 s else cacheN x0 x1 x2 x5 x6 s

/-- The new token's key codes. -/
abbrev kcode (x0 : Vec F S2 .f32) (x3 : Vec F S1x1x256 .bf16) : FVec F S1x256 .fp8e4m3 := k0_pay37 (sc0 x0) (sc1 x0) x3
/-- The new token's value codes. -/
abbrev vcode (x1 : Vec F S2 .f32) (x4 : Vec F S1x1x256 .bf16) : FVec F S1x256 .fp8e4m3 := k0_pay38 (sc0 x1) (sc1 x1) x4

/-- The new token taken in, the scales folded. -/
abbrev tokenF (x0 x1 : Vec F S2 .f32) (x2 : Vec F S1x16x128 .bf16) (x3 x4 : Vec F S1x1x256 .bf16) (s : St F) : St F :=
  (k0_pay20 (sc0 x0) (sc1 x0) (k0_pay46 x2) laneIota rowIota (kcode x0 x3) k0_pay41 s.1,
   k0_pay18 (sc0 x0) (sc1 x0) (k0_pay46 x2) laneIota rowIota (kcode x0 x3) k0_pay41 s.1 s.2.1,
   k0_pay19 (sc0 x0) (sc1 x0) (k0_pay46 x2) laneIota rowIota (kcode x0 x3) (vcode x1 x4) k0_pay41 s.1 s.2.2)

/-- The new token taken in, dequantised first. -/
abbrev tokenN (x0 x1 : Vec F S2 .f32) (x2 : Vec F S1x16x128 .bf16) (x3 x4 : Vec F S1x1x256 .bf16) (s : St F) : St F :=
  (k0_pay21 (k0_pay32 (qbd x2) (k0_pay13 (sc0 x0) (sc1 x0) (kcode x0 x3) k0_pay41) s.1),
   k0_pay35 (qbd x2) (k0_pay13 (sc0 x0) (sc1 x0) (kcode x0 x3) k0_pay41) s.1 s.2.1,
   k0_pay36 (sc0 x1) (sc1 x1) (qbd x2) (vcode x1 x4) (k0_pay13 (sc0 x0) (sc1 x0) (kcode x0 x3) k0_pay41) s.1 s.2.2)

/-- The new token taken in. -/
def tokenStep (x0 x1 : Vec F S2 .f32) (x2 : Vec F S1x16x128 .bf16) (x3 x4 : Vec F S1x1x256 .bf16) (s : St F) : St F :=
  if foldBit x0 x1 = 1#1 then tokenF x0 x1 x2 x3 x4 s else tokenN x0 x1 x2 x3 x4 s

/-- The output row the last point of a batch row writes, from the state after the new token. -/
abbrev yOut (x0 x1 : Vec F S2 .f32) (s : St F) : Vec F S1x16x128 .bf16 := k0_pay22 (sc0 x1) (sc1 x1) (foldBit x0 x1) s.2.2 s.2.1

/-! ## Reading back a buffer stored whole -/

/-- A buffer whose last store covers it reads as what that store wrote. -/
theorem read_whole {sig : RefSig} {κ : Kind} {sp : Space} {S : Shape} {e : EltTy} (v : View sig κ sp S e) {off : Fin S.rank → Nat}
    (h : off = fun _ => 0) (inb : ∀ a, off a + S.size a ≤ S.size a) (w : S.Idx → Elt F e) (f : v.ty.Contents (Elt F))
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

theorem off2 : (![0, 0] : Fin 2 → ℕ) = fun _ => 0 := by decide
theorem off3 : (![0, 0, 0] : Fin 3 → ℕ) = fun _ => 0 := by decide

/-- A load of the whole of a buffer is what the buffer holds. -/
theorem load_whole {sig : RefSig} {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-- A branch on a bit and the branch on its complement are not both taken, -/
theorem bit_excl (b : BitVec 1) (h : Scalar.cmpi .ne (Scalar.extui b : BitVec 32) 0#32 = 1#1)
    (h' : Scalar.cmpi .ne (Scalar.extui (Scalar.xori b 1#1) : BitVec 32) 0#32 = 1#1) : False := by
  revert b; decide
/-- nor both left, -/
theorem bit_exh (b : BitVec 1) (h : ¬Scalar.cmpi .ne (Scalar.extui b : BitVec 32) 0#32 = 1#1)
    (h' : ¬Scalar.cmpi .ne (Scalar.extui (Scalar.xori b 1#1) : BitVec 32) 0#32 = 1#1) : False := by
  revert b; decide
/-- and the branch on the bit is taken exactly when it is one. -/
theorem bit_one (b : BitVec 1) : Scalar.cmpi .ne (Scalar.extui b : BitVec 32) 0#32 = 1#1 ↔ b = 1#1 := by
  revert b; decide
/-- and the branch on the bit is taken exactly when it is one. -/
theorem bit_zero (b : BitVec 1) : Scalar.cmpi .ne (Scalar.extui (Scalar.xori b 1#1) : BitVec 32) 0#32 = 1#1 ↔ ¬ b = 1#1 := by
  revert b; decide

section Whole
variable {κ : Kind} {sp : Space}
/-- A whole store into a buffer of shape `S16x1`, read back. -/
theorem read_m (v : View sig κ sp S16x1 .f32) (inb) (w : Vec F S16x1 .f32) (f L) :
    v.read (Elt F) (v.writes (Elt F) f ((⟨Rect.unit ![0, 0] S16x1.size inb, w⟩ : View.Piece (Elt F) S16x1 .f32) :: L)) = w := read_whole v off2 inb w f L
/-- A whole load of a buffer of shape `S16x1`. -/
theorem load_m (v : View sig κ sp S16x1 .f32) (inb) (f : v.ty.Contents (Elt F)) :
    v.readAt (Elt F) (Rect.unit ![0, 0] S16x1.size inb).toLoadRect f = v.read (Elt F) f := load_whole v off2 inb f
/-- A whole store into a buffer of shape `S16x256`, read back. -/
theorem read_a (v : View sig κ sp S16x256 .f32) (inb) (w : Vec F S16x256 .f32) (f L) :
    v.read (Elt F) (v.writes (Elt F) f ((⟨Rect.unit ![0, 0] S16x256.size inb, w⟩ : View.Piece (Elt F) S16x256 .f32) :: L)) = w := read_whole v off2 inb w f L
/-- A whole load of a buffer of shape `S16x256`. -/
theorem load_a (v : View sig κ sp S16x256 .f32) (inb) (f : v.ty.Contents (Elt F)) :
    v.readAt (Elt F) (Rect.unit ![0, 0] S16x256.size inb).toLoadRect f = v.read (Elt F) f := load_whole v off2 inb f
/-- A whole store into a buffer of shape `S1x16x128`, read back. -/
theorem read_q (v : View sig κ sp S1x16x128 .bf16) (inb) (w : Vec F S1x16x128 .bf16) (f L) :
    v.read (Elt F) (v.writes (Elt F) f ((⟨Rect.unit ![0, 0, 0] S1x16x128.size inb, w⟩ : View.Piece (Elt F) S1x16x128 .bf16) :: L)) = w := read_whole v off3 inb w f L
/-- A whole load of a buffer of shape `S1x16x128`. -/
theorem load_q (v : View sig κ sp S1x16x128 .bf16) (inb) (f : v.ty.Contents (Elt F)) :
    v.readAt (Elt F) (Rect.unit ![0, 0, 0] S1x16x128.size inb).toLoadRect f = v.read (Elt F) f := load_whole v off3 inb f
/-- A whole load of a buffer of shape `S1x1x256`. -/
theorem load_n (v : View sig κ sp S1x1x256 .bf16) (inb) (f : v.ty.Contents (Elt F)) :
    v.readAt (Elt F) (Rect.unit ![0, 0, 0] S1x1x256.size inb).toLoadRect f = v.read (Elt F) f := load_whole v off3 inb f
/-- A whole store into a buffer of shape `S1x1x256`, read back. -/
theorem read_c (v : View sig κ sp S1x1x256 .fp8e4m3) (inb) (w : Vec F S1x1x256 .fp8e4m3) (f L) :
    v.read (Elt F) (v.writes (Elt F) f ((⟨Rect.unit ![0, 0, 0] S1x1x256.size inb, w⟩ : View.Piece (Elt F) S1x1x256 .fp8e4m3) :: L)) = w := read_whole v off3 inb w f L
/-- A whole load of a buffer of shape `S1x1x256`. -/
theorem load_c (v : View sig κ sp S1x1x256 .fp8e4m3) (inb) (f : v.ty.Contents (Elt F)) :
    v.readAt (Elt F) (Rect.unit ![0, 0, 0] S1x1x256.size inb).toLoadRect f = v.read (Elt F) f := load_whole v off3 inb f
/-- A whole load of a column just stored whole. -/
theorem cov_m (v : View sig κ sp S16x1 .f32) (inb inb') (w : Vec F S16x1 .f32) (L) :
    v.readCov (Val := Elt F) ((⟨Rect.unit ![0, 0] S16x1.size inb, w⟩ : View.Piece (Elt F) S16x1 .f32) :: L)
      (Rect.unit ![0, 0] S16x1.size inb').toLoadRect = w :=
  (load_m v inb' _).trans (read_m v inb w _ L)
/-- A whole load of the accumulator just stored whole. -/
theorem cov_a (v : View sig κ sp S16x256 .f32) (inb inb') (w : Vec F S16x256 .f32) (L) :
    v.readCov (Val := Elt F) ((⟨Rect.unit ![0, 0] S16x256.size inb, w⟩ : View.Piece (Elt F) S16x256 .f32) :: L)
      (Rect.unit ![0, 0] S16x256.size inb').toLoadRect = w :=
  (load_a v inb' _).trans (read_a v inb w _ L)
end Whole

set_option maxHeartbeats 1600000 in
/-- At the first point of a batch row. -/
theorem run_first (c : Dev nD) (i : grid0.Coords) (arg2 : Memref sig .tc .smem S2 .f32) (harg2 : arg2.IsWhole) (arg3 : Memref sig .tc .smem S2 .f32) (harg3 : arg3.IsWhole) (arg4 : Memref sig .tc .vmem S1x16x128 .bf16) (harg4 : arg4.IsWhole) (arg5 : Memref sig .tc .vmem S1x1x256 .bf16) (harg5 : arg5.IsWhole) (arg6 : Memref sig .tc .vmem S1x1x256 .bf16) (harg6 : arg6.IsWhole) (arg7 : Memref sig .tc .vmem S1x2x2048x128 .fp8e4m3) (harg7 : arg7.IsWhole) (arg8 : Memref sig .tc .vmem S1x2x2048x128 .fp8e4m3) (harg8 : arg8.IsWhole) (arg9 : Memref sig .tc .vmem S1x16x128 .bf16) (harg9 : arg9.IsWhole) (arg10 : Memref sig .tc .vmem S1x1x256 .fp8e4m3) (harg10 : arg10.IsWhole) (arg11 : Memref sig .tc .vmem S1x1x256 .fp8e4m3) (harg11 : arg11.IsWhole) (arg12 : Memref sig .tc .vmem S16x1 .f32) (harg12 : arg12.IsWhole) (arg13 : Memref sig .tc .vmem S16x1 .f32) (harg13 : arg13.IsWhole) (arg14 : Memref sig .tc .vmem S16x256 .f32) (harg14 : arg14.IsWhole)
    (hc0 : Scalar.cmpi .ne (Scalar.extui (Scalar.cmpi .eq (BitVec.ofNat 32 (i 1).val) 0#32)) 0#32 = 1#1) (hc3 : ¬k0_cond4 i = 1#1)
    (x0 : Vec F S2 .f32) (x1 : Vec F S2 .f32) (x2 : Vec F S1x16x128 .bf16) (x3 : Vec F S1x1x256 .bf16) (x4 : Vec F S1x1x256 .bf16) (x5 : Vec F S1x2x2048x128 .fp8e4m3) (x6 : Vec F S1x2x2048x128 .fp8e4m3) (xs0 : Vec F S16x1 .f32) (xs1 : Vec F S16x1 .f32) (xs2 : Vec F S16x256 .f32) (d7 : Vec F S1x16x128 .bf16) (d8 : Vec F S1x1x256 .fp8e4m3) (d9 : Vec F S1x1x256 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare xs0 ∗ owns (c : Thread nD τ) arg13 fullShare xs1 ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare (cacheStep x0 x1 x2 x5 x6 st0).1 ∗ owns (c : Thread nD τ) arg13 fullShare (cacheStep x0 x1 x2 x5 x6 st0).2.1 ∗ owns (c : Thread nD τ) arg14 fullShare (cacheStep x0 x1 x2 x5 x6 st0).2.2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc3)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [HS0]
  · iexists _; isplitr
    swap; · iexact HS0
    ipureintro
    sl_unfold_words
    split_ifs with h h' h'
    · exact (bit_excl _ h' h).elim
    · have hb : ¬ foldBit (arg2.view.read (Elt F) f0) (arg3.view.read (Elt F) f1) = 1#1 := (bit_zero _).mp h
      rw [cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  isplitl [HS1]
  · iexists _; isplitr
    swap; · iexact HS1
    ipureintro
    sl_unfold_words
    split_ifs with h h' h'
    · exact (bit_excl _ h' h).elim
    · have hb : ¬ foldBit (arg2.view.read (Elt F) f0) (arg3.view.read (Elt F) f1) = 1#1 := (bit_zero _).mp h
      rw [cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  iexists _; isplitr
  swap; · iexact HS2
  ipureintro
  sl_unfold_words
  split_ifs with h h' h'
  · exact (bit_excl _ h' h).elim
  · have hb : ¬ foldBit (arg2.view.read (Elt F) f0) (arg3.view.read (Elt F) f1) = 1#1 := (bit_zero _).mp h
    rw [cacheStep, if_neg hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · have hb : foldBit (arg2.view.read (Elt F) f0) (arg3.view.read (Elt F) f1) = 1#1 := (bit_one _).mp h'
    rw [cacheStep, if_pos hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · exact (bit_exh _ h' h).elim

set_option maxHeartbeats 1600000 in
/-- At a point neither first nor last of its batch row. -/
theorem run_mid (c : Dev nD) (i : grid0.Coords) (arg2 : Memref sig .tc .smem S2 .f32) (harg2 : arg2.IsWhole) (arg3 : Memref sig .tc .smem S2 .f32) (harg3 : arg3.IsWhole) (arg4 : Memref sig .tc .vmem S1x16x128 .bf16) (harg4 : arg4.IsWhole) (arg5 : Memref sig .tc .vmem S1x1x256 .bf16) (harg5 : arg5.IsWhole) (arg6 : Memref sig .tc .vmem S1x1x256 .bf16) (harg6 : arg6.IsWhole) (arg7 : Memref sig .tc .vmem S1x2x2048x128 .fp8e4m3) (harg7 : arg7.IsWhole) (arg8 : Memref sig .tc .vmem S1x2x2048x128 .fp8e4m3) (harg8 : arg8.IsWhole) (arg9 : Memref sig .tc .vmem S1x16x128 .bf16) (harg9 : arg9.IsWhole) (arg10 : Memref sig .tc .vmem S1x1x256 .fp8e4m3) (harg10 : arg10.IsWhole) (arg11 : Memref sig .tc .vmem S1x1x256 .fp8e4m3) (harg11 : arg11.IsWhole) (arg12 : Memref sig .tc .vmem S16x1 .f32) (harg12 : arg12.IsWhole) (arg13 : Memref sig .tc .vmem S16x1 .f32) (harg13 : arg13.IsWhole) (arg14 : Memref sig .tc .vmem S16x256 .f32) (harg14 : arg14.IsWhole)
    (hc0 : ¬Scalar.cmpi .ne (Scalar.extui (Scalar.cmpi .eq (BitVec.ofNat 32 (i 1).val) 0#32)) 0#32 = 1#1) (hc3 : ¬k0_cond4 i = 1#1)
    (x0 : Vec F S2 .f32) (x1 : Vec F S2 .f32) (x2 : Vec F S1x16x128 .bf16) (x3 : Vec F S1x1x256 .bf16) (x4 : Vec F S1x1x256 .bf16) (x5 : Vec F S1x2x2048x128 .fp8e4m3) (x6 : Vec F S1x2x2048x128 .fp8e4m3) (xs0 : Vec F S16x1 .f32) (xs1 : Vec F S16x1 .f32) (xs2 : Vec F S16x256 .f32) (d7 : Vec F S1x16x128 .bf16) (d8 : Vec F S1x1x256 .fp8e4m3) (d9 : Vec F S1x1x256 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare xs0 ∗ owns (c : Thread nD τ) arg13 fullShare xs1 ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare (cacheStep x0 x1 x2 x5 x6 (xs0, xs1, xs2)).1 ∗ owns (c : Thread nD τ) arg13 fullShare (cacheStep x0 x1 x2 x5 x6 (xs0, xs1, xs2)).2.1 ∗ owns (c : Thread nD τ) arg14 fullShare (cacheStep x0 x1 x2 x5 x6 (xs0, xs1, xs2)).2.2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc3)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [HS0]
  · iexists _; isplitr
    swap; · iexact HS0
    ipureintro
    sl_unfold_words
    split_ifs with h h' h'
    · exact (bit_excl _ h' h).elim
    · have hb : ¬ foldBit (arg2.view.read (Elt F) f0) (arg3.view.read (Elt F) f1) = 1#1 := (bit_zero _).mp h
      rw [cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  isplitl [HS1]
  · iexists _; isplitr
    swap; · iexact HS1
    ipureintro
    sl_unfold_words
    split_ifs with h h' h'
    · exact (bit_excl _ h' h).elim
    · have hb : ¬ foldBit (arg2.view.read (Elt F) f0) (arg3.view.read (Elt F) f1) = 1#1 := (bit_zero _).mp h
      rw [cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  iexists _; isplitr
  swap; · iexact HS2
  ipureintro
  sl_unfold_words
  split_ifs with h h' h'
  · exact (bit_excl _ h' h).elim
  · have hb : ¬ foldBit (arg2.view.read (Elt F) f0) (arg3.view.read (Elt F) f1) = 1#1 := (bit_zero _).mp h
    rw [cacheStep, if_neg hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · have hb : foldBit (arg2.view.read (Elt F) f0) (arg3.view.read (Elt F) f1) = 1#1 := (bit_one _).mp h'
    rw [cacheStep, if_pos hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · exact (bit_exh _ h' h).elim

set_option maxHeartbeats 1600000 in
/-- At the last point of a batch row. -/
theorem run_last (c : Dev nD) (i : grid0.Coords) (arg2 : Memref sig .tc .smem S2 .f32) (harg2 : arg2.IsWhole) (arg3 : Memref sig .tc .smem S2 .f32) (harg3 : arg3.IsWhole) (arg4 : Memref sig .tc .vmem S1x16x128 .bf16) (harg4 : arg4.IsWhole) (arg5 : Memref sig .tc .vmem S1x1x256 .bf16) (harg5 : arg5.IsWhole) (arg6 : Memref sig .tc .vmem S1x1x256 .bf16) (harg6 : arg6.IsWhole) (arg7 : Memref sig .tc .vmem S1x2x2048x128 .fp8e4m3) (harg7 : arg7.IsWhole) (arg8 : Memref sig .tc .vmem S1x2x2048x128 .fp8e4m3) (harg8 : arg8.IsWhole) (arg9 : Memref sig .tc .vmem S1x16x128 .bf16) (harg9 : arg9.IsWhole) (arg10 : Memref sig .tc .vmem S1x1x256 .fp8e4m3) (harg10 : arg10.IsWhole) (arg11 : Memref sig .tc .vmem S1x1x256 .fp8e4m3) (harg11 : arg11.IsWhole) (arg12 : Memref sig .tc .vmem S16x1 .f32) (harg12 : arg12.IsWhole) (arg13 : Memref sig .tc .vmem S16x1 .f32) (harg13 : arg13.IsWhole) (arg14 : Memref sig .tc .vmem S16x256 .f32) (harg14 : arg14.IsWhole)
    (hc0 : ¬Scalar.cmpi .ne (Scalar.extui (Scalar.cmpi .eq (BitVec.ofNat 32 (i 1).val) 0#32)) 0#32 = 1#1) (hc3 : k0_cond4 i = 1#1)
    (x0 : Vec F S2 .f32) (x1 : Vec F S2 .f32) (x2 : Vec F S1x16x128 .bf16) (x3 : Vec F S1x1x256 .bf16) (x4 : Vec F S1x1x256 .bf16) (x5 : Vec F S1x2x2048x128 .fp8e4m3) (x6 : Vec F S1x2x2048x128 .fp8e4m3) (xs0 : Vec F S16x1 .f32) (xs1 : Vec F S16x1 .f32) (xs2 : Vec F S16x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yOut x0 x1 (tokenStep x0 x1 x2 x3 x4 (cacheStep x0 x1 x2 x5 x6 (xs0, xs1, xs2)))) ∗ owns (c : Thread nD τ) arg10 fullShare (k0_pay39 (sc0 x0) (sc1 x0) x3) ∗ owns (c : Thread nD τ) arg11 fullShare (k0_pay40 (sc0 x1) (sc1 x1) x4) ∗ owns (c : Thread nD τ) arg12 fullShare (tokenStep x0 x1 x2 x3 x4 (cacheStep x0 x1 x2 x5 x6 (xs0, xs1, xs2))).1 ∗ owns (c : Thread nD τ) arg13 fullShare (tokenStep x0 x1 x2 x3 x4 (cacheStep x0 x1 x2 x5 x6 (xs0, xs1, xs2))).2.1 ∗ owns (c : Thread nD τ) arg14 fullShare (tokenStep x0 x1 x2 x3 x4 (cacheStep x0 x1 x2 x5 x6 (xs0, xs1, xs2))).2.2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc3)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    swap; · iexact H7
    ipureintro
    sl_unfold_words
    split_ifs with h h' h'
    · exact (bit_excl _ h' h).elim
    · have hb : ¬ foldBit (arg2.view.read (Elt F) f0) (arg3.view.read (Elt F) f1) = 1#1 := (bit_zero _).mp h
      rw [tokenStep, if_neg hb, cacheStep, if_neg hb]
      exact (read_whole _ off3 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [tokenStep, if_pos hb, cacheStep, if_pos hb]
      exact (read_whole _ off3 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  isplitl [H8]
  · iexists _; isplitr
    swap; · iexact H8
    ipureintro
    sl_unfold_words
    exact (read_whole _ off3 _ _ _ _).trans (by (rw [load_n]); rfl)
  isplitl [H9]
  · iexists _; isplitr
    swap; · iexact H9
    ipureintro
    sl_unfold_words
    exact (read_whole _ off3 _ _ _ _).trans (by (rw [load_n]); rfl)
  isplitl [HS0]
  · iexists _; isplitr
    swap; · iexact HS0
    ipureintro
    sl_unfold_words
    split_ifs with h h' h'
    · exact (bit_excl _ h' h).elim
    · have hb : ¬ foldBit (arg2.view.read (Elt F) f0) (arg3.view.read (Elt F) f1) = 1#1 := (bit_zero _).mp h
      rw [tokenStep, if_neg hb, cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [tokenStep, if_pos hb, cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  isplitl [HS1]
  · iexists _; isplitr
    swap; · iexact HS1
    ipureintro
    sl_unfold_words
    split_ifs with h h' h'
    · exact (bit_excl _ h' h).elim
    · have hb : ¬ foldBit (arg2.view.read (Elt F) f0) (arg3.view.read (Elt F) f1) = 1#1 := (bit_zero _).mp h
      rw [tokenStep, if_neg hb, cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [tokenStep, if_pos hb, cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  iexists _; isplitr
  swap; · iexact HS2
  ipureintro
  sl_unfold_words
  split_ifs with h h' h'
  · exact (bit_excl _ h' h).elim
  · have hb : ¬ foldBit (arg2.view.read (Elt F) f0) (arg3.view.read (Elt F) f1) = 1#1 := (bit_zero _).mp h
    rw [tokenStep, if_neg hb, cacheStep, if_neg hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · have hb : foldBit (arg2.view.read (Elt F) f0) (arg3.view.read (Elt F) f1) = 1#1 := (bit_one _).mp h'
    rw [tokenStep, if_pos hb, cacheStep, if_pos hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · exact (bit_exh _ h' h).elim

end Cert.Kernel.Hand
-- ==== Proof.KernelFrame.lean ====
module

public import proofs.«01_k».proof.Proof.KernelRuns
public import proofs.«01_k».proof.Proof.Gen.Kernel.Skeleton
public import proofs.«01_k».proof.Proof.Gen.Kernel.Launch
public import proofs.«01_k».proof.Proof.Gen.Kernel.Points
public import Idealize.ShloMosaic.Lib.Claim
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points are first and last in their batch row -/

/-- The condition under which the kernel resets its state. -/
abbrev isFirst (i : grid0.Coords) : Prop := Scalar.cmpi .ne (Scalar.extui (Scalar.cmpi .eq (BitVec.ofNat 32 (i 1).val) 0#32)) 0#32 = 1#1

/-- The state is reset at every eighth point. -/
theorem isFirst_iff : ∀ t : Fin cfg0.N, isFirst (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [isFirst, e0, e1]
    word_cmp : ∀ t : Fin grid0.N, isFirst (grid0.coords t) ↔ t.val % 8 = 0)

/-- The outputs are written at every eighth point, counting from the eighth. -/
theorem isLast_iff : ∀ t : Fin cfg0.N, k0_cond4 (grid0.coords t) = 1#1 ↔ t.val % 8 = 7 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [k0_cond4, e0, e1]
    word_cmp : ∀ t : Fin grid0.N, k0_cond4 (grid0.coords t) = 1#1 ↔ t.val % 8 = 7)

/-- The three outputs are left alone except at a last point, -/
theorem idle_out : ∀ t : Fin cfg0.N, ¬t.val % 8 = 7 →
    (cfg0.idle 7 (grid0.coords t) = true ∧ cfg0.idle 8 (grid0.coords t) = true ∧ cfg0.idle 9 (grid0.coords t) = true)
    ∧ ((cfg0.win 7).flush t = false ∧ (cfg0.win 8).flush t = false ∧ (cfg0.win 9).flush t = false) := by decide +kernel
/-- where they are written. -/
theorem live_out : ∀ t : Fin cfg0.N, t.val % 8 = 7 →
    cfg0.idle 7 (grid0.coords t) = false ∧ cfg0.idle 8 (grid0.coords t) = false ∧ cfg0.idle 9 (grid0.coords t) = false := by decide +kernel
/-- Window 0 is an input. -/
theorem live0 : ∀ t : Fin cfg0.N, cfg0.idle 0 (grid0.coords t) = false := fun _ => rfl
/-- Window 1 is an input. -/
theorem live1 : ∀ t : Fin cfg0.N, cfg0.idle 1 (grid0.coords t) = false := fun _ => rfl
/-- Window 2 is an input. -/
theorem live2 : ∀ t : Fin cfg0.N, cfg0.idle 2 (grid0.coords t) = false := fun _ => rfl
/-- Window 3 is an input. -/
theorem live3 : ∀ t : Fin cfg0.N, cfg0.idle 3 (grid0.coords t) = false := fun _ => rfl
/-- Window 4 is an input. -/
theorem live4 : ∀ t : Fin cfg0.N, cfg0.idle 4 (grid0.coords t) = false := fun _ => rfl
/-- Window 5 is an input. -/
theorem live5 : ∀ t : Fin cfg0.N, cfg0.idle 5 (grid0.coords t) = false := fun _ => rfl
/-- Window 6 is an input. -/
theorem live6 : ∀ t : Fin cfg0.N, cfg0.idle 6 (grid0.coords t) = false := fun _ => rfl

/-! ## The buffers the body is handed -/

/-- Window 0's buffer at point `t`. -/
abbrev ms0 (t : Fin cfg0.N) : Memref sig .tc .smem S2 .f32 := win0_0.stage (cfg0.slots t 0)
/-- Window 1's buffer at point `t`. -/
abbrev ms1 (t : Fin cfg0.N) : Memref sig .tc .smem S2 .f32 := win0_1.stage (cfg0.slots t 1)
/-- Window 2's buffer at point `t`. -/
abbrev ms2 (t : Fin cfg0.N) : Memref sig .tc .vmem S1x16x128 .bf16 := win0_2.stage (cfg0.slots t 2)
/-- Window 3's buffer at point `t`. -/
abbrev ms3 (t : Fin cfg0.N) : Memref sig .tc .vmem S1x1x256 .bf16 := win0_3.stage (cfg0.slots t 3)
/-- Window 4's buffer at point `t`. -/
abbrev ms4 (t : Fin cfg0.N) : Memref sig .tc .vmem S1x1x256 .bf16 := win0_4.stage (cfg0.slots t 4)
/-- Window 5's buffer at point `t`. -/
abbrev ms5 (t : Fin cfg0.N) : Memref sig .tc .vmem S1x2x2048x128 .fp8e4m3 := win0_5.stage (cfg0.slots t 5)
/-- Window 6's buffer at point `t`. -/
abbrev ms6 (t : Fin cfg0.N) : Memref sig .tc .vmem S1x2x2048x128 .fp8e4m3 := win0_6.stage (cfg0.slots t 6)
/-- Window 7's buffer at point `t`. -/
abbrev ms7 (t : Fin cfg0.N) : Memref sig .tc .vmem S1x16x128 .bf16 := win0_7.stage (cfg0.slots t 7)
/-- Window 8's buffer at point `t`. -/
abbrev ms8 (t : Fin cfg0.N) : Memref sig .tc .vmem S1x1x256 .fp8e4m3 := win0_8.stage (cfg0.slots t 8)
/-- Window 9's buffer at point `t`. -/
abbrev ms9 (t : Fin cfg0.N) : Memref sig .tc .vmem S1x1x256 .fp8e4m3 := win0_9.stage (cfg0.slots t 9)
/-- The running maximum's buffer. -/
abbrev scr0 : Memref sig .tc .vmem S16x1 .f32 := Memref.whole cc0_scratch0
/-- The running sum's buffer. -/
abbrev scr1 : Memref sig .tc .vmem S16x1 .f32 := Memref.whole cc0_scratch1
/-- The running accumulator's buffer. -/
abbrev scr2 : Memref sig .tc .vmem S16x256 .f32 := Memref.whole cc0_scratch2

/-- What the launch hands the region, buffer by buffer. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

variable (m : (ℓ : Loc nD τ sig) → Buf (Elt F) ℓ) (ρ : Dev nD → PrngReg)

/-- Window 0's block at point `t`. -/
abbrev blk0 (c : Dev nD) (t : Fin cfg0.N) : Vec F S2 .f32 := iblk m c 0 t
/-- Window 1's block at point `t`. -/
abbrev blk1 (c : Dev nD) (t : Fin cfg0.N) : Vec F S2 .f32 := iblk m c 1 t
/-- Window 2's block at point `t`. -/
abbrev blk2 (c : Dev nD) (t : Fin cfg0.N) : Vec F S1x16x128 .bf16 := iblk m c 2 t
/-- Window 3's block at point `t`. -/
abbrev blk3 (c : Dev nD) (t : Fin cfg0.N) : Vec F S1x1x256 .bf16 := iblk m c 3 t
/-- Window 4's block at point `t`. -/
abbrev blk4 (c : Dev nD) (t : Fin cfg0.N) : Vec F S1x1x256 .bf16 := iblk m c 4 t
/-- Window 5's block at point `t`. -/
abbrev blk5 (c : Dev nD) (t : Fin cfg0.N) : Vec F S1x2x2048x128 .fp8e4m3 := iblk m c 5 t
/-- Window 6's block at point `t`. -/
abbrev blk6 (c : Dev nD) (t : Fin cfg0.N) : Vec F S1x2x2048x128 .fp8e4m3 := iblk m c 6 t

/-- The state before point `n`, when `n` is not the first of its batch row: the blocks of its row so far taken in. -/
def stAt (c : Dev nD) : (n : ℕ) → n ≤ cfg0.N → St F
  | 0, _ => st0
  | n + 1, hn => cacheStep (blk0 m c ⟨n, hn⟩) (blk1 m c ⟨n, hn⟩) (blk2 m c ⟨n, hn⟩) (blk5 m c ⟨n, hn⟩) (blk6 m c ⟨n, hn⟩)
      (if n % 8 = 0 then st0 else stAt c n (Nat.le_of_succ_le hn))

/-- One more block taken in. -/
theorem stAt_succ (c : Dev nD) (t : Fin cfg0.N) :
    stAt m c (t.val + 1) t.isLt = cacheStep (blk0 m c t) (blk1 m c t) (blk2 m c t) (blk5 m c t) (blk6 m c t)
      (if t.val % 8 = 0 then st0 else stAt m c t.val (Nat.le_of_lt t.isLt)) := rfl

/-- The state after the new token, at the last point of a batch row. -/
def stEnd (c : Dev nD) (t : Fin cfg0.N) : St F :=
  tokenStep (blk0 m c t) (blk1 m c t) (blk2 m c t) (blk3 m c t) (blk4 m c t) (stAt m c (t.val + 1) t.isLt)

/-- The attention output's block. -/
def outY (c : Dev nD) (t : Fin cfg0.N) : Vec F S1x16x128 .bf16 := yOut (blk0 m c t) (blk1 m c t) (stEnd m c t)
/-- The key codes' block. -/
def outK (c : Dev nD) (t : Fin cfg0.N) : Vec F S1x1x256 .fp8e4m3 := k0_pay39 (sc0 (blk0 m c t)) (sc1 (blk0 m c t)) (blk3 m c t)
/-- The value codes' block. -/
def outV (c : Dev nD) (t : Fin cfg0.N) : Vec F S1x1x256 .fp8e4m3 := k0_pay40 (sc0 (blk1 m c t)) (sc1 (blk1 m c t)) (blk4 m c t)

/-- Between points: the state's buffers hold the state of the batch row in progress, anything between two rows. -/
def PhiS (c : Dev nD) (n : ℕ) (hn : n ≤ cfg0.N) : sProp 𝕄 :=
  iprop(∃ x0 x1 x2, ⌜¬n % 8 = 0 → (x0, x1, x2) = stAt m c n hn⌝ ∗ (owns (c : Thread nD τ) scr0 fullShare x0 ∗ owns (c : Thread nD τ) scr1 fullShare x1 ∗ owns (c : Thread nD τ) scr2 fullShare x2) ∗ (∃ r, prngReg c r))

/-! ## The pipeline's proof data -/

/-- The arrays as the region finds them; each input's buffer at its block, each output's at what the body writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY m c t
    | ⟨8, _⟩ => outK m c t
    | ⟨9, _⟩ => outV m c t
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- What the body leaves in window 4. -/
theorem after4 (c : Dev nD) (t : Fin cfg0.N) : (dats m 0 c).after 4 t = iblk m c 4 t := by dsimp only [dats]
/-- What the body leaves in window 5. -/
theorem after5 (c : Dev nD) (t : Fin cfg0.N) : (dats m 0 c).after 5 t = iblk m c 5 t := by dsimp only [dats]
/-- What the body leaves in window 6. -/
theorem after6 (c : Dev nD) (t : Fin cfg0.N) : (dats m 0 c).after 6 t = iblk m c 6 t := by dsimp only [dats]
/-- What the body leaves in window 7. -/
theorem after7 (c : Dev nD) (t : Fin cfg0.N) : (dats m 0 c).after 7 t = outY m c t := by dsimp only [dats]
/-- What the body leaves in window 8. -/
theorem after8 (c : Dev nD) (t : Fin cfg0.N) : (dats m 0 c).after 8 t = outK m c t := by dsimp only [dats]
/-- What the body leaves in window 9. -/
theorem after9 (c : Dev nD) (t : Fin cfg0.N) : (dats m 0 c).after 9 t = outV m c t := by dsimp only [dats]
/-- What the body finds in window 0. -/
theorem before0 (c : Dev nD) (t : Fin cfg0.N) (d) : (dats m 0 c).before 0 t d = iblk m c 0 t :=
  before0_0_of m (dats m 0 c) (A_eq m c 0) (after0 m c) t d
/-- What the body finds in window 1. -/
theorem before1 (c : Dev nD) (t : Fin cfg0.N) (d) : (dats m 0 c).before 1 t d = iblk m c 1 t :=
  before0_1_of m (dats m 0 c) (A_eq m c 1) (after1 m c) t d
/-- What the body finds in window 2. -/
theorem before2 (c : Dev nD) (t : Fin cfg0.N) (d) : (dats m 0 c).before 2 t d = iblk m c 2 t :=
  before0_2_of m (dats m 0 c) (A_eq m c 2) (after2 m c) t d
/-- What the body finds in window 3. -/
theorem before3 (c : Dev nD) (t : Fin cfg0.N) (d) : (dats m 0 c).before 3 t d = iblk m c 3 t :=
  before0_3_of m (dats m 0 c) (A_eq m c 3) (after3 m c) t d
/-- What the body finds in window 4. -/
theorem before4 (c : Dev nD) (t : Fin cfg0.N) (d) : (dats m 0 c).before 4 t d = iblk m c 4 t :=
  before0_4_of m (dats m 0 c) (A_eq m c 4) (after4 m c) t d
/-- What the body finds in window 5. -/
theorem before5 (c : Dev nD) (t : Fin cfg0.N) (d) : (dats m 0 c).before 5 t d = iblk m c 5 t :=
  before0_5_of m (dats m 0 c) (A_eq m c 5) (after5 m c) t d
/-- What the body finds in window 6. -/
theorem before6 (c : Dev nD) (t : Fin cfg0.N) (d) : (dats m 0 c).before 6 t d = iblk m c 6 t :=
  before0_6_of m (dats m 0 c) (A_eq m c 6) (after6 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point keeps the invariant and leaves every window as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_castSucc m c t]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  by_cases h7 : t.val % 8 = 7
  · have h0 : ¬t.val % 8 = 0 := by omega
    rw [show (dats m 0 c).leavesExact 7 t = owns (c : Thread nD τ) (ms7 t) fullShare ((dats m 0 c).after 7 t) from by
      unfold Dat.leavesExact; rw [(live_out t h7).1], after7]
    rw [show (dats m 0 c).leavesExact 8 t = owns (c : Thread nD τ) (ms8 t) fullShare ((dats m 0 c).after 8 t) from by
      unfold Dat.leavesExact; rw [(live_out t h7).2.1], after8]
    rw [show (dats m 0 c).leavesExact 9 t = owns (c : Thread nD τ) (ms9 t) fullShare ((dats m 0 c).after 9 t) from by
      unfold Dat.leavesExact; rw [(live_out t h7).2.2], after9]
    unfold outY outK outV stEnd
    unfold PhiS
    iintro ⟨⟨%x0, %x1, %x2, %hx, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [stAt_succ, if_neg h0, ← hx h0]
    iapply (run_last c (grid0.coords t) _ _ _ _ _ _ _ _ _ _ _ _ _ _ _ _ _ _ _ _ _ _ _ _ _ _ (fun h => h0 ((isFirst_iff t).mp h)) ((isLast_iff t).mpr h7) (iblk m c 0 t) (iblk m c 1 t) (iblk m c 2 t) (iblk m c 3 t) (iblk m c 4 t) (iblk m c 5 t) (iblk m c 6 t) x0 x1 x2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · iexists _; iexists _; iexists _
      isplitr
      swap
      · isplitl [HS0 HS1 HS2]
        · isplitl [HS0]; · iexact HS0
          isplitl [HS1]; · iexact HS1
          iexact HS2
        iexact Hg
      ipureintro
      intro h; exact absurd (show (t.val + 1) % 8 = 0 by omega) h
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases h0 : t.val % 8 = 0
  · rw [Dat.leavesExact_idle (dats m 0 c) 7 t (idle_out t h7).1.1 (idle_out t h7).2.1]
    rw [Dat.leavesExact_idle (dats m 0 c) 8 t (idle_out t h7).1.2.1 (idle_out t h7).2.2.1]
    rw [Dat.leavesExact_idle (dats m 0 c) 9 t (idle_out t h7).1.2.2 (idle_out t h7).2.2.2]
    unfold PhiS
    iintro ⟨⟨%x0, %x1, %x2, %hx, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ _ _ ((isFirst_iff t).mpr h0) (fun h => h7 ((isLast_iff t).mp h)) (iblk m c 0 t) (iblk m c 1 t) (iblk m c 2 t) (iblk m c 3 t) (iblk m c 4 t) (iblk m c 5 t) (iblk m c 6 t) x0 x1 x2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · iexists _; iexists _; iexists _
      isplitr
      swap
      · isplitl [HS0 HS1 HS2]
        · isplitl [HS0]; · iexact HS0
          isplitl [HS1]; · iexact HS1
          iexact HS2
        iexact Hg
      ipureintro
      intro _; rw [stAt_succ, if_pos h0]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9
  · rw [Dat.leavesExact_idle (dats m 0 c) 7 t (idle_out t h7).1.1 (idle_out t h7).2.1]
    rw [Dat.leavesExact_idle (dats m 0 c) 8 t (idle_out t h7).1.2.1 (idle_out t h7).2.2.1]
    rw [Dat.leavesExact_idle (dats m 0 c) 9 t (idle_out t h7).1.2.2 (idle_out t h7).2.2.2]
    unfold PhiS
    iintro ⟨⟨%x0, %x1, %x2, %hx, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_mid c (grid0.coords t) _ _ _ _ _ _ _ _ _ _ _ _ _ _ _ _ _ _ _ _ _ _ _ _ _ _ (fun h => h0 ((isFirst_iff t).mp h)) (fun h => h7 ((isLast_iff t).mp h)) (iblk m c 0 t) (iblk m c 1 t) (iblk m c 2 t) (iblk m c 3 t) (iblk m c 4 t) (iblk m c 5 t) (iblk m c 6 t) x0 x1 x2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · iexists _; iexists _; iexists _
      isplitr
      swap
      · isplitl [HS0 HS1 HS2]
        · isplitl [HS0]; · iexact HS0
          isplitl [HS1]; · iexact HS1
          iexact HS2
        iexact Hg
      ipureintro
      intro _; rw [stAt_succ, if_neg h0, ← hx h0]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%d0, HS0⟩, ⟨%d1, HS1⟩, ⟨%d2, HS2⟩⟩, Hg⟩
  iexists d0; iexists d1; iexists d2
  isplitr
  · ipureintro; intro h; exact absurd rfl h
  isplitl [HS0 HS1 HS2]
  · isplitl [HS0]; · iexact HS0
    isplitl [HS1]; · iexact HS1
    iexact HS2
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  unfold PhiS
  iintro ⟨%d0, %d1, %d2, %hx, ⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

-- `θ_run_frame_track`'s implicit arguments are found by unifying its conclusion with this one, which takes unfolding plain
-- definitions in a metavariable's type
set_option backward.isDefEq.respectTransparency.types false in
/-- The run ends with every array at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends with every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand
-- ==== Proof.KernelIdealRuns.lean ====
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point of the grid computes -/

/-- Word `k` of a two-word scale array, as the kernel reads it. -/
abbrev sc0 (x : Vec F S2 .f32) : Elt F .f32 :=
  View.ld x (Rect.unit (s := S2) ![0] S1.size inb_S2_S1_0) (Shape.Idx.first (numel1_S1.symm ▸ Nat.one_pos))
/-- Word 1 of a two-word scale array, as the kernel reads it. -/
abbrev sc1 (x : Vec F S2 .f32) : Elt F .f32 :=
  View.ld x (Rect.unit (s := S2) ![1] S1.size inb_S2_S1_1) (Shape.Idx.first (numel1_S1.symm ▸ Nat.one_pos))

/-- Head 0's block of a cache window. -/
abbrev hd0 (x : Vec F S1x2x2048x128 .fp8e4m3) : Vec F S1x1x2048x128 .fp8e4m3 :=
  View.ld x (Rect.unit (s := S1x2x2048x128) ![0, 0, 0, 0] S1x1x2048x128.size inb_S1x2x2048x128_S1x1x2048x128_0_0_0_0)
/-- Head 1's block of a cache window. -/
abbrev hd1 (x : Vec F S1x2x2048x128 .fp8e4m3) : Vec F S1x1x2048x128 .fp8e4m3 :=
  View.ld x (Rect.unit (s := S1x2x2048x128) ![0, 1, 0, 0] S1x1x2048x128.size inb_S1x2x2048x128_S1x1x2048x128_0_1_0_0)

/-- The kernel's test that a scale `s` is a power of two in its range; `p` is the largest match found. -/
abbrev okS (p s : F .f32) : BitVec 1 :=
  Scalar.andi (Scalar.andi (Scalar.cmpf .ogt p (Scalar.ofBits .f32 0x00000000#32))
    (Scalar.cmpf .oge s (Scalar.ofBits .f32 0x1F800000#32))) (Scalar.cmpf .ole s (Scalar.ofBits .f32 0x5F800000#32))

/-- Whether the kernel folds the scales into the softmax: all four pass the test. -/
abbrev foldBit (x0 x1 : Vec F S2 .f32) : BitVec 1 :=
  Scalar.andi (Scalar.andi (Scalar.andi (okS (k0_pay42 (sc0 x0)) (sc0 x0)) (okS (k0_pay43 (sc1 x0)) (sc1 x0)))
    (okS (k0_pay44 (sc0 x1)) (sc0 x1))) (okS (k0_pay45 (sc1 x1)) (sc1 x1))

/-- The lane numbers the block-diagonal query is laid out by. -/
abbrev laneIota : IVec S16x256 32 := iota .tc S16x256 32 [1] iota_S16x256_d1_w32
/-- The row numbers the block-diagonal query is laid out by. -/
abbrev rowIota : IVec S16x256 32 := iota .tc S16x256 32 [0] iota_S16x256_d0_w32
/-- The block-diagonal query: head `h`'s rows in head `h`'s lanes. -/
abbrev qbd (x2 : Vec F S1x16x128 .bf16) : FVec F S16x256 .bf16 := k0_pay1 (k0_pay46 x2) laneIota rowIota

/-- The running maximum, sum and accumulator. -/
abbrev St (F : FTy → Type) [FloatOps F] : Type := Vec F S16x1 .f32 × Vec F S16x1 .f32 × Vec F S16x256 .f32

/-- The state a new batch row starts from. -/
abbrev st0 : St F := (k0_pay2, k0_pay3, k0_pay4)

/-- One cache block taken in, the scales folded. -/
abbrev cacheF (x0 : Vec F S2 .f32) (x2 : Vec F S1x16x128 .bf16) (x5 x6 : Vec F S1x2x2048x128 .fp8e4m3) (s : St F) : St F :=
  (k0_pay7 (k0_pay25 (sc0 x0) (sc1 x0) (qbd x2) (hd0 x5) (hd1 x5) s.1),
   k0_pay5 (k0_pay26 (sc0 x0) (sc1 x0) (qbd x2) (hd0 x5) (hd1 x5) s.1) (k0_pay27 (sc0 x0) (sc1 x0) (qbd x2) (hd0 x5) (hd1 x5) s.1) s.2.1,
   k0_pay6 (k0_pay23 (hd0 x6) (hd1 x6)) (k0_pay26 (sc0 x0) (sc1 x0) (qbd x2) (hd0 x5) (hd1 x5) s.1) (k0_pay27 (sc0 x0) (sc1 x0) (qbd x2) (hd0 x5) (hd1 x5) s.1) s.2.2)

/-- One cache block taken in, dequantised first. -/
abbrev cacheN (x0 x1 : Vec F S2 .f32) (x2 : Vec F S1x16x128 .bf16) (x5 x6 : Vec F S1x2x2048x128 .fp8e4m3) (s : St F) : St F :=
  (k0_pay12 (k0_pay30 (sc0 x0) (sc1 x0) (qbd x2) (hd0 x5) (hd1 x5) s.1),
   k0_pay10 (k0_pay29 (sc0 x0) (sc1 x0) (qbd x2) (hd0 x5) (hd1 x5)) s.1 (k0_pay30 (sc0 x0) (sc1 x0) (qbd x2) (hd0 x5) (hd1 x5) s.1) s.2.1,
   k0_pay11 (k0_pay28 (sc0 x1) (sc1 x1) (hd0 x6) (hd1 x6)) (k0_pay29 (sc0 x0) (sc1 x0) (qbd x2) (hd0 x5) (hd1 x5)) s.1 (k0_pay30 (sc0 x0) (sc1 x0) (qbd x2) (hd0 x5) (hd1 x5) s.1) s.2.2)

/-- One cache block taken in. -/
def cacheStep (x0 x1 : Vec F S2 .f32) (x2 : Vec F S1x16x128 .bf16) (x5 x6 : Vec F S1x2x2048x128 .fp8e4m3) (s : St F) : St F :=
  if foldBit x0 x1 = 1#1 then cacheF x0 x2 x5 x6 s else cacheN x0 x1 x2 x5 x6 s

/-- The new token's key codes. -/
abbrev kcode (x0 : Vec F S2 .f32) (x3 : Vec F S1x1x256 .bf16) : FVec F S1x256 .fp8e4m3 := k0_pay37 (sc0 x0) (sc1 x0) x3
/-- The new token's value codes. -/
abbrev vcode (x1 : Vec F S2 .f32) (x4 : Vec F S1x1x256 .bf16) : FVec F S1x256 .fp8e4m3 := k0_pay38 (sc0 x1) (sc1 x1) x4

/-- The new token taken in, the scales folded. -/
abbrev tokenF (x0 x1 : Vec F S2 .f32) (x2 : Vec F S1x16x128 .bf16) (x3 x4 : Vec F S1x1x256 .bf16) (s : St F) : St F :=
  (k0_pay20 (sc0 x0) (sc1 x0) (k0_pay46 x2) laneIota rowIota (kcode x0 x3) k0_pay41 s.1,
   k0_pay18 (sc0 x0) (sc1 x0) (k0_pay46 x2) laneIota rowIota (kcode x0 x3) k0_pay41 s.1 s.2.1,
   k0_pay19 (sc0 x0) (sc1 x0) (k0_pay46 x2) laneIota rowIota (kcode x0 x3) (vcode x1 x4) k0_pay41 s.1 s.2.2)

/-- The new token taken in, dequantised first. -/
abbrev tokenN (x0 x1 : Vec F S2 .f32) (x2 : Vec F S1x16x128 .bf16) (x3 x4 : Vec F S1x1x256 .bf16) (s : St F) : St F :=
  (k0_pay21 (k0_pay32 (qbd x2) (k0_pay13 (sc0 x0) (sc1 x0) (kcode x0 x3) k0_pay41) s.1),
   k0_pay35 (qbd x2) (k0_pay13 (sc0 x0) (sc1 x0) (kcode x0 x3) k0_pay41) s.1 s.2.1,
   k0_pay36 (sc0 x1) (sc1 x1) (qbd x2) (vcode x1 x4) (k0_pay13 (sc0 x0) (sc1 x0) (kcode x0 x3) k0_pay41) s.1 s.2.2)

/-- The new token taken in. -/
def tokenStep (x0 x1 : Vec F S2 .f32) (x2 : Vec F S1x16x128 .bf16) (x3 x4 : Vec F S1x1x256 .bf16) (s : St F) : St F :=
  if foldBit x0 x1 = 1#1 then tokenF x0 x1 x2 x3 x4 s else tokenN x0 x1 x2 x3 x4 s

/-- The output row the last point of a batch row writes, from the state after the new token. -/
abbrev yOut (x0 x1 : Vec F S2 .f32) (s : St F) : Vec F S1x16x128 .bf16 := k0_pay22 (sc0 x1) (sc1 x1) (foldBit x0 x1) s.2.2 s.2.1

/-! ## Reading back a buffer stored whole -/

/-- A buffer whose last store covers it reads as what that store wrote. -/
theorem read_whole {sig : RefSig} {κ : Kind} {sp : Space} {S : Shape} {e : EltTy} (v : View sig κ sp S e) {off : Fin S.rank → Nat}
    (h : off = fun _ => 0) (inb : ∀ a, off a + S.size a ≤ S.size a) (w : S.Idx → Elt F e) (f : v.ty.Contents (Elt F))
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

theorem off2 : (![0, 0] : Fin 2 → ℕ) = fun _ => 0 := by decide
theorem off3 : (![0, 0, 0] : Fin 3 → ℕ) = fun _ => 0 := by decide

/-- A load of the whole of a buffer is what the buffer holds. -/
theorem load_whole {sig : RefSig} {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-- A branch on a bit and the branch on its complement are not both taken, -/
theorem bit_excl (b : BitVec 1) (h : Scalar.cmpi .ne (Scalar.extui b : BitVec 32) 0#32 = 1#1)
    (h' : Scalar.cmpi .ne (Scalar.extui (Scalar.xori b 1#1) : BitVec 32) 0#32 = 1#1) : False := by
  revert b; decide
/-- nor both left, -/
theorem bit_exh (b : BitVec 1) (h : ¬Scalar.cmpi .ne (Scalar.extui b : BitVec 32) 0#32 = 1#1)
    (h' : ¬Scalar.cmpi .ne (Scalar.extui (Scalar.xori b 1#1) : BitVec 32) 0#32 = 1#1) : False := by
  revert b; decide
/-- and the branch on the bit is taken exactly when it is one. -/
theorem bit_one (b : BitVec 1) : Scalar.cmpi .ne (Scalar.extui b : BitVec 32) 0#32 = 1#1 ↔ b = 1#1 := by
  revert b; decide
/-- and the branch on the bit is taken exactly when it is one. -/
theorem bit_zero (b : BitVec 1) : Scalar.cmpi .ne (Scalar.extui (Scalar.xori b 1#1) : BitVec 32) 0#32 = 1#1 ↔ ¬ b = 1#1 := by
  revert b; decide

section Whole
variable {κ : Kind} {sp : Space}
/-- A whole store into a buffer of shape `S16x1`, read back. -/
theorem read_m (v : View sig κ sp S16x1 .f32) (inb) (w : Vec F S16x1 .f32) (f L) :
    v.read (Elt F) (v.writes (Elt F) f ((⟨Rect.unit ![0, 0] S16x1.size inb, w⟩ : View.Piece (Elt F) S16x1 .f32) :: L)) = w := read_whole v off2 inb w f L
/-- A whole load of a buffer of shape `S16x1`. -/
theorem load_m (v : View sig κ sp S16x1 .f32) (inb) (f : v.ty.Contents (Elt F)) :
    v.readAt (Elt F) (Rect.unit ![0, 0] S16x1.size inb).toLoadRect f = v.read (Elt F) f := load_whole v off2 inb f
/-- A whole store into a buffer of shape `S16x256`, read back. -/
theorem read_a (v : View sig κ sp S16x256 .f32) (inb) (w : Vec F S16x256 .f32) (f L) :
    v.read (Elt F) (v.writes (Elt F) f ((⟨Rect.unit ![0, 0] S16x256.size inb, w⟩ : View.Piece (Elt F) S16x256 .f32) :: L)) = w := read_whole v off2 inb w f L
/-- A whole load of a buffer of shape `S16x256`. -/
theorem load_a (v : View sig κ sp S16x256 .f32) (inb) (f : v.ty.Contents (Elt F)) :
    v.readAt (Elt F) (Rect.unit ![0, 0] S16x256.size inb).toLoadRect f = v.read (Elt F) f := load_whole v off2 inb f
/-- A whole store into a buffer of shape `S1x16x128`, read back. -/
theorem read_q (v : View sig κ sp S1x16x128 .bf16) (inb) (w : Vec F S1x16x128 .bf16) (f L) :
    v.read (Elt F) (v.writes (Elt F) f ((⟨Rect.unit ![0, 0, 0] S1x16x128.size inb, w⟩ : View.Piece (Elt F) S1x16x128 .bf16) :: L)) = w := read_whole v off3 inb w f L
/-- A whole load of a buffer of shape `S1x16x128`. -/
theorem load_q (v : View sig κ sp S1x16x128 .bf16) (inb) (f : v.ty.Contents (Elt F)) :
    v.readAt (Elt F) (Rect.unit ![0, 0, 0] S1x16x128.size inb).toLoadRect f = v.read (Elt F) f := load_whole v off3 inb f
/-- A whole load of a buffer of shape `S1x1x256`. -/
theorem load_n (v : View sig κ sp S1x1x256 .bf16) (inb) (f : v.ty.Contents (Elt F)) :
    v.readAt (Elt F) (Rect.unit ![0, 0, 0] S1x1x256.size inb).toLoadRect f = v.read (Elt F) f := load_whole v off3 inb f
/-- A whole store into a buffer of shape `S1x1x256`, read back. -/
theorem read_c (v : View sig κ sp S1x1x256 .fp8e4m3) (inb) (w : Vec F S1x1x256 .fp8e4m3) (f L) :
    v.read (Elt F) (v.writes (Elt F) f ((⟨Rect.unit ![0, 0, 0] S1x1x256.size inb, w⟩ : View.Piece (Elt F) S1x1x256 .fp8e4m3) :: L)) = w := read_whole v off3 inb w f L
/-- A whole load of a buffer of shape `S1x1x256`. -/
theorem load_c (v : View sig κ sp S1x1x256 .fp8e4m3) (inb) (f : v.ty.Contents (Elt F)) :
    v.readAt (Elt F) (Rect.unit ![0, 0, 0] S1x1x256.size inb).toLoadRect f = v.read (Elt F) f := load_whole v off3 inb f
/-- A whole load of a column just stored whole. -/
theorem cov_m (v : View sig κ sp S16x1 .f32) (inb inb') (w : Vec F S16x1 .f32) (L) :
    v.readCov (Val := Elt F) ((⟨Rect.unit ![0, 0] S16x1.size inb, w⟩ : View.Piece (Elt F) S16x1 .f32) :: L)
      (Rect.unit ![0, 0] S16x1.size inb').toLoadRect = w :=
  (load_m v inb' _).trans (read_m v inb w _ L)
/-- A whole load of the accumulator just stored whole. -/
theorem cov_a (v : View sig κ sp S16x256 .f32) (inb inb') (w : Vec F S16x256 .f32) (L) :
    v.readCov (Val := Elt F) ((⟨Rect.unit ![0, 0] S16x256.size inb, w⟩ : View.Piece (Elt F) S16x256 .f32) :: L)
      (Rect.unit ![0, 0] S16x256.size inb').toLoadRect = w :=
  (load_a v inb' _).trans (read_a v inb w _ L)
end Whole

set_option maxHeartbeats 1600000 in
/-- At the first point of a batch row. -/
theorem run_first (c : Dev nD) (i : grid0.Coords) (arg2 : Memref sig .tc .smem S2 .f32) (harg2 : arg2.IsWhole) (arg3 : Memref sig .tc .smem S2 .f32) (harg3 : arg3.IsWhole) (arg4 : Memref sig .tc .vmem S1x16x128 .bf16) (harg4 : arg4.IsWhole) (arg5 : Memref sig .tc .vmem S1x1x256 .bf16) (harg5 : arg5.IsWhole) (arg6 : Memref sig .tc .vmem S1x1x256 .bf16) (harg6 : arg6.IsWhole) (arg7 : Memref sig .tc .vmem S1x2x2048x128 .fp8e4m3) (harg7 : arg7.IsWhole) (arg8 : Memref sig .tc .vmem S1x2x2048x128 .fp8e4m3) (harg8 : arg8.IsWhole) (arg9 : Memref sig .tc .vmem S1x16x128 .bf16) (harg9 : arg9.IsWhole) (arg10 : Memref sig .tc .vmem S1x1x256 .fp8e4m3) (harg10 : arg10.IsWhole) (arg11 : Memref sig .tc .vmem S1x1x256 .fp8e4m3) (harg11 : arg11.IsWhole) (arg12 : Memref sig .tc .vmem S16x1 .f32) (harg12 : arg12.IsWhole) (arg13 : Memref sig .tc .vmem S16x1 .f32) (harg13 : arg13.IsWhole) (arg14 : Memref sig .tc .vmem S16x256 .f32) (harg14 : arg14.IsWhole)
    (hc0 : Scalar.cmpi .ne (Scalar.extui (Scalar.cmpi .eq (BitVec.ofNat 32 (i 1).val) 0#32)) 0#32 = 1#1) (hc3 : ¬k0_cond4 i = 1#1)
    (x0 : Vec F S2 .f32) (x1 : Vec F S2 .f32) (x2 : Vec F S1x16x128 .bf16) (x3 : Vec F S1x1x256 .bf16) (x4 : Vec F S1x1x256 .bf16) (x5 : Vec F S1x2x2048x128 .fp8e4m3) (x6 : Vec F S1x2x2048x128 .fp8e4m3) (xs0 : Vec F S16x1 .f32) (xs1 : Vec F S16x1 .f32) (xs2 : Vec F S16x256 .f32) (d7 : Vec F S1x16x128 .bf16) (d8 : Vec F S1x1x256 .fp8e4m3) (d9 : Vec F S1x1x256 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare xs0 ∗ owns (c : Thread nD τ) arg13 fullShare xs1 ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare (cacheStep x0 x1 x2 x5 x6 st0).1 ∗ owns (c : Thread nD τ) arg13 fullShare (cacheStep x0 x1 x2 x5 x6 st0).2.1 ∗ owns (c : Thread nD τ) arg14 fullShare (cacheStep x0 x1 x2 x5 x6 st0).2.2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc3)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [HS0]
  · iexists _; isplitr
    swap; · iexact HS0
    ipureintro
    sl_unfold_words
    split_ifs with h h' h'
    · exact (bit_excl _ h' h).elim
    · have hb : ¬ foldBit (arg2.view.read (Elt F) f0) (arg3.view.read (Elt F) f1) = 1#1 := (bit_zero _).mp h
      rw [cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  isplitl [HS1]
  · iexists _; isplitr
    swap; · iexact HS1
    ipureintro
    sl_unfold_words
    split_ifs with h h' h'
    · exact (bit_excl _ h' h).elim
    · have hb : ¬ foldBit (arg2.view.read (Elt F) f0) (arg3.view.read (Elt F) f1) = 1#1 := (bit_zero _).mp h
      rw [cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  iexists _; isplitr
  swap; · iexact HS2
  ipureintro
  sl_unfold_words
  split_ifs with h h' h'
  · exact (bit_excl _ h' h).elim
  · have hb : ¬ foldBit (arg2.view.read (Elt F) f0) (arg3.view.read (Elt F) f1) = 1#1 := (bit_zero _).mp h
    rw [cacheStep, if_neg hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · have hb : foldBit (arg2.view.read (Elt F) f0) (arg3.view.read (Elt F) f1) = 1#1 := (bit_one _).mp h'
    rw [cacheStep, if_pos hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · exact (bit_exh _ h' h).elim

set_option maxHeartbeats 1600000 in
/-- At a point neither first nor last of its batch row. -/
theorem run_mid (c : Dev nD) (i : grid0.Coords) (arg2 : Memref sig .tc .smem S2 .f32) (harg2 : arg2.IsWhole) (arg3 : Memref sig .tc .smem S2 .f32) (harg3 : arg3.IsWhole) (arg4 : Memref sig .tc .vmem S1x16x128 .bf16) (harg4 : arg4.IsWhole) (arg5 : Memref sig .tc .vmem S1x1x256 .bf16) (harg5 : arg5.IsWhole) (arg6 : Memref sig .tc .vmem S1x1x256 .bf16) (harg6 : arg6.IsWhole) (arg7 : Memref sig .tc .vmem S1x2x2048x128 .fp8e4m3) (harg7 : arg7.IsWhole) (arg8 : Memref sig .tc .vmem S1x2x2048x128 .fp8e4m3) (harg8 : arg8.IsWhole) (arg9 : Memref sig .tc .vmem S1x16x128 .bf16) (harg9 : arg9.IsWhole) (arg10 : Memref sig .tc .vmem S1x1x256 .fp8e4m3) (harg10 : arg10.IsWhole) (arg11 : Memref sig .tc .vmem S1x1x256 .fp8e4m3) (harg11 : arg11.IsWhole) (arg12 : Memref sig .tc .vmem S16x1 .f32) (harg12 : arg12.IsWhole) (arg13 : Memref sig .tc .vmem S16x1 .f32) (harg13 : arg13.IsWhole) (arg14 : Memref sig .tc .vmem S16x256 .f32) (harg14 : arg14.IsWhole)
    (hc0 : ¬Scalar.cmpi .ne (Scalar.extui (Scalar.cmpi .eq (BitVec.ofNat 32 (i 1).val) 0#32)) 0#32 = 1#1) (hc3 : ¬k0_cond4 i = 1#1)
    (x0 : Vec F S2 .f32) (x1 : Vec F S2 .f32) (x2 : Vec F S1x16x128 .bf16) (x3 : Vec F S1x1x256 .bf16) (x4 : Vec F S1x1x256 .bf16) (x5 : Vec F S1x2x2048x128 .fp8e4m3) (x6 : Vec F S1x2x2048x128 .fp8e4m3) (xs0 : Vec F S16x1 .f32) (xs1 : Vec F S16x1 .f32) (xs2 : Vec F S16x256 .f32) (d7 : Vec F S1x16x128 .bf16) (d8 : Vec F S1x1x256 .fp8e4m3) (d9 : Vec F S1x1x256 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare xs0 ∗ owns (c : Thread nD τ) arg13 fullShare xs1 ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare d9 ∗ owns (c : Thread nD τ) arg12 fullShare (cacheStep x0 x1 x2 x5 x6 (xs0, xs1, xs2)).1 ∗ owns (c : Thread nD τ) arg13 fullShare (cacheStep x0 x1 x2 x5 x6 (xs0, xs1, xs2)).2.1 ∗ owns (c : Thread nD τ) arg14 fullShare (cacheStep x0 x1 x2 x5 x6 (xs0, xs1, xs2)).2.2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc3)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [HS0]
  · iexists _; isplitr
    swap; · iexact HS0
    ipureintro
    sl_unfold_words
    split_ifs with h h' h'
    · exact (bit_excl _ h' h).elim
    · have hb : ¬ foldBit (arg2.view.read (Elt F) f0) (arg3.view.read (Elt F) f1) = 1#1 := (bit_zero _).mp h
      rw [cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  isplitl [HS1]
  · iexists _; isplitr
    swap; · iexact HS1
    ipureintro
    sl_unfold_words
    split_ifs with h h' h'
    · exact (bit_excl _ h' h).elim
    · have hb : ¬ foldBit (arg2.view.read (Elt F) f0) (arg3.view.read (Elt F) f1) = 1#1 := (bit_zero _).mp h
      rw [cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  iexists _; isplitr
  swap; · iexact HS2
  ipureintro
  sl_unfold_words
  split_ifs with h h' h'
  · exact (bit_excl _ h' h).elim
  · have hb : ¬ foldBit (arg2.view.read (Elt F) f0) (arg3.view.read (Elt F) f1) = 1#1 := (bit_zero _).mp h
    rw [cacheStep, if_neg hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · have hb : foldBit (arg2.view.read (Elt F) f0) (arg3.view.read (Elt F) f1) = 1#1 := (bit_one _).mp h'
    rw [cacheStep, if_pos hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · exact (bit_exh _ h' h).elim

set_option maxHeartbeats 1600000 in
/-- At the last point of a batch row. -/
theorem run_last (c : Dev nD) (i : grid0.Coords) (arg2 : Memref sig .tc .smem S2 .f32) (harg2 : arg2.IsWhole) (arg3 : Memref sig .tc .smem S2 .f32) (harg3 : arg3.IsWhole) (arg4 : Memref sig .tc .vmem S1x16x128 .bf16) (harg4 : arg4.IsWhole) (arg5 : Memref sig .tc .vmem S1x1x256 .bf16) (harg5 : arg5.IsWhole) (arg6 : Memref sig .tc .vmem S1x1x256 .bf16) (harg6 : arg6.IsWhole) (arg7 : Memref sig .tc .vmem S1x2x2048x128 .fp8e4m3) (harg7 : arg7.IsWhole) (arg8 : Memref sig .tc .vmem S1x2x2048x128 .fp8e4m3) (harg8 : arg8.IsWhole) (arg9 : Memref sig .tc .vmem S1x16x128 .bf16) (harg9 : arg9.IsWhole) (arg10 : Memref sig .tc .vmem S1x1x256 .fp8e4m3) (harg10 : arg10.IsWhole) (arg11 : Memref sig .tc .vmem S1x1x256 .fp8e4m3) (harg11 : arg11.IsWhole) (arg12 : Memref sig .tc .vmem S16x1 .f32) (harg12 : arg12.IsWhole) (arg13 : Memref sig .tc .vmem S16x1 .f32) (harg13 : arg13.IsWhole) (arg14 : Memref sig .tc .vmem S16x256 .f32) (harg14 : arg14.IsWhole)
    (hc0 : ¬Scalar.cmpi .ne (Scalar.extui (Scalar.cmpi .eq (BitVec.ofNat 32 (i 1).val) 0#32)) 0#32 = 1#1) (hc3 : k0_cond4 i = 1#1)
    (x0 : Vec F S2 .f32) (x1 : Vec F S2 .f32) (x2 : Vec F S1x16x128 .bf16) (x3 : Vec F S1x1x256 .bf16) (x4 : Vec F S1x1x256 .bf16) (x5 : Vec F S1x2x2048x128 .fp8e4m3) (x6 : Vec F S1x2x2048x128 .fp8e4m3) (xs0 : Vec F S16x1 .f32) (xs1 : Vec F S16x1 .f32) (xs2 : Vec F S16x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yOut x0 x1 (tokenStep x0 x1 x2 x3 x4 (cacheStep x0 x1 x2 x5 x6 (xs0, xs1, xs2)))) ∗ owns (c : Thread nD τ) arg10 fullShare (k0_pay39 (sc0 x0) (sc1 x0) x3) ∗ owns (c : Thread nD τ) arg11 fullShare (k0_pay40 (sc0 x1) (sc1 x1) x4) ∗ owns (c : Thread nD τ) arg12 fullShare (tokenStep x0 x1 x2 x3 x4 (cacheStep x0 x1 x2 x5 x6 (xs0, xs1, xs2))).1 ∗ owns (c : Thread nD τ) arg13 fullShare (tokenStep x0 x1 x2 x3 x4 (cacheStep x0 x1 x2 x5 x6 (xs0, xs1, xs2))).2.1 ∗ owns (c : Thread nD τ) arg14 fullShare (tokenStep x0 x1 x2 x3 x4 (cacheStep x0 x1 x2 x5 x6 (xs0, xs1, xs2))).2.2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc3)
  sl_step
  iapply Hk
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    swap; · iexact H7
    ipureintro
    sl_unfold_words
    split_ifs with h h' h'
    · exact (bit_excl _ h' h).elim
    · have hb : ¬ foldBit (arg2.view.read (Elt F) f0) (arg3.view.read (Elt F) f1) = 1#1 := (bit_zero _).mp h
      rw [tokenStep, if_neg hb, cacheStep, if_neg hb]
      exact (read_whole _ off3 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [tokenStep, if_pos hb, cacheStep, if_pos hb]
      exact (read_whole _ off3 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  isplitl [H8]
  · iexists _; isplitr
    swap; · iexact H8
    ipureintro
    sl_unfold_words
    exact (read_whole _ off3 _ _ _ _).trans (by (rw [load_n]); rfl)
  isplitl [H9]
  · iexists _; isplitr
    swap; · iexact H9
    ipureintro
    sl_unfold_words
    exact (read_whole _ off3 _ _ _ _).trans (by (rw [load_n]); rfl)
  isplitl [HS0]
  · iexists _; isplitr
    swap; · iexact HS0
    ipureintro
    sl_unfold_words
    split_ifs with h h' h'
    · exact (bit_excl _ h' h).elim
    · have hb : ¬ foldBit (arg2.view.read (Elt F) f0) (arg3.view.read (Elt F) f1) = 1#1 := (bit_zero _).mp h
      rw [tokenStep, if_neg hb, cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [tokenStep, if_pos hb, cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  isplitl [HS1]
  · iexists _; isplitr
    swap; · iexact HS1
    ipureintro
    sl_unfold_words
    split_ifs with h h' h'
    · exact (bit_excl _ h' h).elim
    · have hb : ¬ foldBit (arg2.view.read (Elt F) f0) (arg3.view.read (Elt F) f1) = 1#1 := (bit_zero _).mp h
      rw [tokenStep, if_neg hb, cacheStep, if_neg hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · have hb : foldBit (arg2.view.read (Elt F) f0) (arg3.view.read (Elt F) f1) = 1#1 := (bit_one _).mp h'
      rw [tokenStep, if_pos hb, cacheStep, if_pos hb]
      exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
    · exact (bit_exh _ h' h).elim
  iexists _; isplitr
  swap; · iexact HS2
  ipureintro
  sl_unfold_words
  split_ifs with h h' h'
  · exact (bit_excl _ h' h).elim
  · have hb : ¬ foldBit (arg2.view.read (Elt F) f0) (arg3.view.read (Elt F) f1) = 1#1 := (bit_zero _).mp h
    rw [tokenStep, if_neg hb, cacheStep, if_neg hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · have hb : foldBit (arg2.view.read (Elt F) f0) (arg3.view.read (Elt F) f1) = 1#1 := (bit_one _).mp h'
    rw [tokenStep, if_pos hb, cacheStep, if_pos hb]
    exact (read_whole _ off2 _ _ _ _).trans (by (repeat rw [cov_m]); (repeat rw [cov_a]); (repeat rw [load_q]); (repeat rw [load_n]); (repeat rw [load_m]); (repeat rw [load_a]); (repeat rw [read_m]); (repeat rw [read_a]); rfl)
  · exact (bit_exh _ h' h).elim

end Cert.KernelIdeal.Hand
-- ==== Proof.KernelIdealFrame.lean ====
module

public import proofs.«01_k».proof.Proof.KernelIdealRuns
public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points are first and last in their batch row -/

/-- The condition under which the kernel resets its state. -/
abbrev isFirst (i : grid0.Coords) : Prop := Scalar.cmpi .ne (Scalar.extui (Scalar.cmpi .eq (BitVec.ofNat 32 (i 1).val) 0#32)) 0#32 = 1#1

/-- The state is reset at every eighth point. -/
theorem isFirst_iff : ∀ t : Fin cfg0.N, isFirst (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [isFirst, e0, e1]
    word_cmp : ∀ t : Fin grid0.N, isFirst (grid0.coords t) ↔ t.val % 8 = 0)

/-- The outputs are written at every eighth point, counting from the eighth. -/
theorem isLast_iff : ∀ t : Fin cfg0.N, k0_cond4 (grid0.coords t) = 1#1 ↔ t.val % 8 = 7 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [k0_cond4, e0, e1]
    word_cmp : ∀ t : Fin grid0.N, k0_cond4 (grid0.coords t) = 1#1 ↔ t.val % 8 = 7)

/-- The three outputs are left alone except at a last point, -/
theorem idle_out : ∀ t : Fin cfg0.N, ¬t.val % 8 = 7 →
    (cfg0.idle 7 (grid0.coords t) = true ∧ cfg0.idle 8 (grid0.coords t) = true ∧ cfg0.idle 9 (grid0.coords t) = true)
    ∧ ((cfg0.win 7).flush t = false ∧ (cfg0.win 8).flush t = false ∧ (cfg0.win 9).flush t = false) := by decide +kernel
/-- where they are written. -/
theorem live_out : ∀ t : Fin cfg0.N, t.val % 8 = 7 →
    cfg0.idle 7 (grid0.coords t) = false ∧ cfg0.idle 8 (grid0.coords t) = false ∧ cfg0.idle 9 (grid0.coords t) = false := by decide +kernel
/-- Window 0 is an input. -/
theorem live0 : ∀ t : Fin cfg0.N, cfg0.idle 0 (grid0.coords t) = false := fun _ => rfl
/-- Window 1 is an input. -/
theorem live1 : ∀ t : Fin cfg0.N, cfg0.idle 1 (grid0.coords t) = false := fun _ => rfl
/-- Window 2 is an input. -/
theorem live2 : ∀ t : Fin cfg0.N, cfg0.idle 2 (grid0.coords t) = false := fun _ => rfl
/-- Window 3 is an input. -/
theorem live3 : ∀ t : Fin cfg0.N, cfg0.idle 3 (grid0.coords t) = false := fun _ => rfl
/-- Window 4 is an input. -/
theorem live4 : ∀ t : Fin cfg0.N, cfg0.idle 4 (grid0.coords t) = false := fun _ => rfl
/-- Window 5 is an input. -/
theorem live5 : ∀ t : Fin cfg0.N, cfg0.idle 5 (grid0.coords t) = false := fun _ => rfl
/-- Window 6 is an input. -/
theorem live6 : ∀ t : Fin cfg0.N, cfg0.idle 6 (grid0.coords t) = false := fun _ => rfl

/-! ## The buffers the body is handed -/

/-- Window 0's buffer at point `t`. -/
abbrev ms0 (t : Fin cfg0.N) : Memref sig .tc .smem S2 .f32 := win0_0.stage (cfg0.slots t 0)
/-- Window 1's buffer at point `t`. -/
abbrev ms1 (t : Fin cfg0.N) : Memref sig .tc .smem S2 .f32 := win0_1.stage (cfg0.slots t 1)
/-- Window 2's buffer at point `t`. -/
abbrev ms2 (t : Fin cfg0.N) : Memref sig .tc .vmem S1x16x128 .bf16 := win0_2.stage (cfg0.slots t 2)
/-- Window 3's buffer at point `t`. -/
abbrev ms3 (t : Fin cfg0.N) : Memref sig .tc .vmem S1x1x256 .bf16 := win0_3.stage (cfg0.slots t 3)
/-- Window 4's buffer at point `t`. -/
abbrev ms4 (t : Fin cfg0.N) : Memref sig .tc .vmem S1x1x256 .bf16 := win0_4.stage (cfg0.slots t 4)
/-- Window 5's buffer at point `t`. -/
abbrev ms5 (t : Fin cfg0.N) : Memref sig .tc .vmem S1x2x2048x128 .fp8e4m3 := win0_5.stage (cfg0.slots t 5)
/-- Window 6's buffer at point `t`. -/
abbrev ms6 (t : Fin cfg0.N) : Memref sig .tc .vmem S1x2x2048x128 .fp8e4m3 := win0_6.stage (cfg0.slots t 6)
/-- Window 7's buffer at point `t`. -/
abbrev ms7 (t : Fin cfg0.N) : Memref sig .tc .vmem S1x16x128 .bf16 := win0_7.stage (cfg0.slots t 7)
/-- Window 8's buffer at point `t`. -/
abbrev ms8 (t : Fin cfg0.N) : Memref sig .tc .vmem S1x1x256 .fp8e4m3 := win0_8.stage (cfg0.slots t 8)
/-- Window 9's buffer at point `t`. -/
abbrev ms9 (t : Fin cfg0.N) : Memref sig .tc .vmem S1x1x256 .fp8e4m3 := win0_9.stage (cfg0.slots t 9)
/-- The running maximum's buffer. -/
abbrev scr0 : Memref sig .tc .vmem S16x1 .f32 := Memref.whole cc0_scratch0
/-- The running sum's buffer. -/
abbrev scr1 : Memref sig .tc .vmem S16x1 .f32 := Memref.whole cc0_scratch1
/-- The running accumulator's buffer. -/
abbrev scr2 : Memref sig .tc .vmem S16x256 .f32 := Memref.whole cc0_scratch2

/-- What the launch hands the region, buffer by buffer. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

variable (m : (ℓ : Loc nD τ sig) → Buf (Elt F) ℓ) (ρ : Dev nD → PrngReg)

/-- Window 0's block at point `t`. -/
abbrev blk0 (c : Dev nD) (t : Fin cfg0.N) : Vec F S2 .f32 := iblk m c 0 t
/-- Window 1's block at point `t`. -/
abbrev blk1 (c : Dev nD) (t : Fin cfg0.N) : Vec F S2 .f32 := iblk m c 1 t
/-- Window 2's block at point `t`. -/
abbrev blk2 (c : Dev nD) (t : Fin cfg0.N) : Vec F S1x16x128 .bf16 := iblk m c 2 t
/-- Window 3's block at point `t`. -/
abbrev blk3 (c : Dev nD) (t : Fin cfg0.N) : Vec F S1x1x256 .bf16 := iblk m c 3 t
/-- Window 4's block at point `t`. -/
abbrev blk4 (c : Dev nD) (t : Fin cfg0.N) : Vec F S1x1x256 .bf16 := iblk m c 4 t
/-- Window 5's block at point `t`. -/
abbrev blk5 (c : Dev nD) (t : Fin cfg0.N) : Vec F S1x2x2048x128 .fp8e4m3 := iblk m c 5 t
/-- Window 6's block at point `t`. -/
abbrev blk6 (c : Dev nD) (t : Fin cfg0.N) : Vec F S1x2x2048x128 .fp8e4m3 := iblk m c 6 t

/-- The state before point `n`, when `n` is not the first of its batch row: the blocks of its row so far taken in. -/
def stAt (c : Dev nD) : (n : ℕ) → n ≤ cfg0.N → St F
  | 0, _ => st0
  | n + 1, hn => cacheStep (blk0 m c ⟨n, hn⟩) (blk1 m c ⟨n, hn⟩) (blk2 m c ⟨n, hn⟩) (blk5 m c ⟨n, hn⟩) (blk6 m c ⟨n, hn⟩)
      (if n % 8 = 0 then st0 else stAt c n (Nat.le_of_succ_le hn))

/-- One more block taken in. -/
theorem stAt_succ (c : Dev nD) (t : Fin cfg0.N) :
    stAt m c (t.val + 1) t.isLt = cacheStep (blk0 m c t) (blk1 m c t) (blk2 m c t) (blk5 m c t) (blk6 m c t)
      (if t.val % 8 = 0 then st0 else stAt m c t.val (Nat.le_of_lt t.isLt)) := rfl

/-- The state after the new token, at the last point of a batch row. -/
def stEnd (c : Dev nD) (t : Fin cfg0.N) : St F :=
  tokenStep (blk0 m c t) (blk1 m c t) (blk2 m c t) (blk3 m c t) (blk4 m c t) (stAt m c (t.val + 1) t.isLt)

/-- The attention output's block. -/
def outY (c : Dev nD) (t : Fin cfg0.N) : Vec F S1x16x128 .bf16 := yOut (blk0 m c t) (blk1 m c t) (stEnd m c t)
/-- The key codes' block. -/
def outK (c : Dev nD) (t : Fin cfg0.N) : Vec F S1x1x256 .fp8e4m3 := k0_pay39 (sc0 (blk0 m c t)) (sc1 (blk0 m c t)) (blk3 m c t)
/-- The value codes' block. -/
def outV (c : Dev nD) (t : Fin cfg0.N) : Vec F S1x1x256 .fp8e4m3 := k0_pay40 (sc0 (blk1 m c t)) (sc1 (blk1 m c t)) (blk4 m c t)

/-- Between points: the state's buffers hold the state of the batch row in progress, anything between two rows. -/
def PhiS (c : Dev nD) (n : ℕ) (hn : n ≤ cfg0.N) : sProp 𝕄 :=
  iprop(∃ x0 x1 x2, ⌜¬n % 8 = 0 → (x0, x1, x2) = stAt m c n hn⌝ ∗ (owns (c : Thread nD τ) scr0 fullShare x0 ∗ owns (c : Thread nD τ) scr1 fullShare x1 ∗ owns (c : Thread nD τ) scr2 fullShare x2) ∗ (∃ r, prngReg c r))

/-! ## The pipeline's proof data -/

/-- The arrays as the region finds them; each input's buffer at its block, each output's at what the body writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY m c t
    | ⟨8, _⟩ => outK m c t
    | ⟨9, _⟩ => outV m c t
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- What the body leaves in window 4. -/
theorem after4 (c : Dev nD) (t : Fin cfg0.N) : (dats m 0 c).after 4 t = iblk m c 4 t := by dsimp only [dats]
/-- What the body leaves in window 5. -/
theorem after5 (c : Dev nD) (t : Fin cfg0.N) : (dats m 0 c).after 5 t = iblk m c 5 t := by dsimp only [dats]
/-- What the body leaves in window 6. -/
theorem after6 (c : Dev nD) (t : Fin cfg0.N) : (dats m 0 c).after 6 t = iblk m c 6 t := by dsimp only [dats]
/-- What the body leaves in window 7. -/
theorem after7 (c : Dev nD) (t : Fin cfg0.N) : (dats m 0 c).after 7 t = outY m c t := by dsimp only [dats]
/-- What the body leaves in window 8. -/
theorem after8 (c : Dev nD) (t : Fin cfg0.N) : (dats m 0 c).after 8 t = outK m c t := by dsimp only [dats]
/-- What the body leaves in window 9. -/
theorem after9 (c : Dev nD) (t : Fin cfg0.N) : (dats m 0 c).after 9 t = outV m c t := by dsimp only [dats]
/-- What the body finds in window 0. -/
theorem before0 (c : Dev nD) (t : Fin cfg0.N) (d) : (dats m 0 c).before 0 t d = iblk m c 0 t :=
  before0_0_of m (dats m 0 c) (A_eq m c 0) (after0 m c) t d
/-- What the body finds in window 1. -/
theorem before1 (c : Dev nD) (t : Fin cfg0.N) (d) : (dats m 0 c).before 1 t d = iblk m c 1 t :=
  before0_1_of m (dats m 0 c) (A_eq m c 1) (after1 m c) t d
/-- What the body finds in window 2. -/
theorem before2 (c : Dev nD) (t : Fin cfg0.N) (d) : (dats m 0 c).before 2 t d = iblk m c 2 t :=
  before0_2_of m (dats m 0 c) (A_eq m c 2) (after2 m c) t d
/-- What the body finds in window 3. -/
theorem before3 (c : Dev nD) (t : Fin cfg0.N) (d) : (dats m 0 c).before 3 t d = iblk m c 3 t :=
  before0_3_of m (dats m 0 c) (A_eq m c 3) (after3 m c) t d
/-- What the body finds in window 4. -/
theorem before4 (c : Dev nD) (t : Fin cfg0.N) (d) : (dats m 0 c).before 4 t d = iblk m c 4 t :=
  before0_4_of m (dats m 0 c) (A_eq m c 4) (after4 m c) t d
/-- What the body finds in window 5. -/
theorem before5 (c : Dev nD) (t : Fin cfg0.N) (d) : (dats m 0 c).before 5 t d = iblk m c 5 t :=
  before0_5_of m (dats m 0 c) (A_eq m c 5) (after5 m c) t d
/-- What the body finds in window 6. -/
theorem before6 (c : Dev nD) (t : Fin cfg0.N) (d) : (dats m 0 c).before 6 t d = iblk m c 6 t :=
  before0_6_of m (dats m 0 c) (A_eq m c 6) (after6 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point keeps the invariant and leaves every window as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_castSucc m c t]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  by_cases h7 : t.val % 8 = 7
  · have h0 : ¬t.val % 8 = 0 := by omega
    rw [show (dats m 0 c).leavesExact 7 t = owns (c : Thread nD τ) (ms7 t) fullShare ((dats m 0 c).after 7 t) from by
      unfold Dat.leavesExact; rw [(live_out t h7).1], after7]
    rw [show (dats m 0 c).leavesExact 8 t = owns (c : Thread nD τ) (ms8 t) fullShare ((dats m 0 c).after 8 t) from by
      unfold Dat.leavesExact; rw [(live_out t h7).2.1], after8]
    rw [show (dats m 0 c).leavesExact 9 t = owns (c : Thread nD τ) (ms9 t) fullShare ((dats m 0 c).after 9 t) from by
      unfold Dat.leavesExact; rw [(live_out t h7).2.2], after9]
    unfold outY outK outV stEnd
    unfold PhiS
    iintro ⟨⟨%x0, %x1, %x2, %hx, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [stAt_succ, if_neg h0, ← hx h0]
    iapply (run_last c (grid0.coords t) _ _ _ _ _ _ _ _ _ _ _ _ _ _ _ _ _ _ _ _ _ _ _ _ _ _ (fun h => h0 ((isFirst_iff t).mp h)) ((isLast_iff t).mpr h7) (iblk m c 0 t) (iblk m c 1 t) (iblk m c 2 t) (iblk m c 3 t) (iblk m c 4 t) (iblk m c 5 t) (iblk m c 6 t) x0 x1 x2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · iexists _; iexists _; iexists _
      isplitr
      swap
      · isplitl [HS0 HS1 HS2]
        · isplitl [HS0]; · iexact HS0
          isplitl [HS1]; · iexact HS1
          iexact HS2
        iexact Hg
      ipureintro
      intro h; exact absurd (show (t.val + 1) % 8 = 0 by omega) h
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases h0 : t.val % 8 = 0
  · rw [Dat.leavesExact_idle (dats m 0 c) 7 t (idle_out t h7).1.1 (idle_out t h7).2.1]
    rw [Dat.leavesExact_idle (dats m 0 c) 8 t (idle_out t h7).1.2.1 (idle_out t h7).2.2.1]
    rw [Dat.leavesExact_idle (dats m 0 c) 9 t (idle_out t h7).1.2.2 (idle_out t h7).2.2.2]
    unfold PhiS
    iintro ⟨⟨%x0, %x1, %x2, %hx, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ _ _ ((isFirst_iff t).mpr h0) (fun h => h7 ((isLast_iff t).mp h)) (iblk m c 0 t) (iblk m c 1 t) (iblk m c 2 t) (iblk m c 3 t) (iblk m c 4 t) (iblk m c 5 t) (iblk m c 6 t) x0 x1 x2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · iexists _; iexists _; iexists _
      isplitr
      swap
      · isplitl [HS0 HS1 HS2]
        · isplitl [HS0]; · iexact HS0
          isplitl [HS1]; · iexact HS1
          iexact HS2
        iexact Hg
      ipureintro
      intro _; rw [stAt_succ, if_pos h0]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9
  · rw [Dat.leavesExact_idle (dats m 0 c) 7 t (idle_out t h7).1.1 (idle_out t h7).2.1]
    rw [Dat.leavesExact_idle (dats m 0 c) 8 t (idle_out t h7).1.2.1 (idle_out t h7).2.2.1]
    rw [Dat.leavesExact_idle (dats m 0 c) 9 t (idle_out t h7).1.2.2 (idle_out t h7).2.2.2]
    unfold PhiS
    iintro ⟨⟨%x0, %x1, %x2, %hx, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_mid c (grid0.coords t) _ _ _ _ _ _ _ _ _ _ _ _ _ _ _ _ _ _ _ _ _ _ _ _ _ _ (fun h => h0 ((isFirst_iff t).mp h)) (fun h => h7 ((isLast_iff t).mp h)) (iblk m c 0 t) (iblk m c 1 t) (iblk m c 2 t) (iblk m c 3 t) (iblk m c 4 t) (iblk m c 5 t) (iblk m c 6 t) x0 x1 x2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · iexists _; iexists _; iexists _
      isplitr
      swap
      · isplitl [HS0 HS1 HS2]
        · isplitl [HS0]; · iexact HS0
          isplitl [HS1]; · iexact HS1
          iexact HS2
        iexact Hg
      ipureintro
      intro _; rw [stAt_succ, if_neg h0, ← hx h0]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%d0, HS0⟩, ⟨%d1, HS1⟩, ⟨%d2, HS2⟩⟩, Hg⟩
  iexists d0; iexists d1; iexists d2
  isplitr
  · ipureintro; intro h; exact absurd rfl h
  isplitl [HS0 HS1 HS2]
  · isplitl [HS0]; · iexact HS0
    isplitl [HS1]; · iexact HS1
    iexact HS2
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  unfold PhiS
  iintro ⟨%d0, %d1, %d2, %hx, ⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

-- `θ_run_frame_track`'s implicit arguments are found by unifying its conclusion with this one, which takes unfolding plain
-- definitions in a metavariable's type
set_option backward.isDefEq.respectTransparency.types false in
/-- The run ends with every array at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends with every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand
-- ==== Proof.Softmax.lean ====
module

public import Idealize.ShloMosaic.PureOps.Ideal
public import Idealize.ShloMosaic.Lib.Pipeline.Value

@[expose] public section

noncomputable section

namespace Cert.Softmax

open Idealize.ShloMosaic
open scoped BigOperators

/-- A finite factor that is not negative distributes over a sum of extended reals. -/
theorem add_mul_fin {c : EReal} (h0 : 0 ≤ c) (ht : c ≠ ⊤) (x y : EReal) : (x + y) * c = x * c + y * c := by
  rw [mul_comm, EReal.left_distrib_of_nonneg_of_ne_top h0 ht, mul_comm c x, mul_comm c y]

/-- … and over a finite sum. -/
theorem sum_mul_fin {ι : Type*} (S : Finset ι) (f : ι → EReal) {c : EReal} (h0 : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, add_mul_fin h0 ht, ih]

/-- The softmax weight of a score `s` against the level `m`. -/
def w (s m : EReal) : EReal := Ideal.exp (s - m)

theorem w_bot (m : EReal) : w ⊥ m = 0 := by simp [w, sub_eq_add_neg]

theorem w_top (s : EReal) : w s ⊤ = 0 := by simp [w, sub_eq_add_neg]

theorem w_coe (s m : ℝ) : w (s : EReal) (m : EReal) = ((Real.exp (s - m) : ℝ) : EReal) := by
  rw [w, ← EReal.coe_sub, Ideal.exp_coe]

/-- A weight at or below its level is a number that is not negative. -/
theorem w_nonneg (s m : EReal) : 0 ≤ w s m := by
  unfold w
  generalize s - m = x
  induction x using EReal.rec with
  | bot => simp
  | top => simp
  | coe r => rw [Ideal.exp_coe]; exact_mod_cast (Real.exp_pos r).le

/-- A weight at or below its level is finite. -/
theorem w_ne_top {s m : EReal} (h : s ≤ m) : w s m ≠ ⊤ := by
  induction m using EReal.rec with
  | bot => rw [le_bot_iff.mp h, w_bot]; exact EReal.zero_ne_top
  | top => rw [w_top]; exact EReal.zero_ne_top
  | coe m =>
    induction s using EReal.rec with
    | bot => rw [w_bot]; exact EReal.zero_ne_top
    | top => exact absurd (top_le_iff.mp h) (EReal.coe_ne_top m)
    | coe s => rw [w_coe]; exact EReal.coe_ne_top _

/-- So a weight less itself is zero. -/
theorem w_sub_self {s m : EReal} (h : s ≤ m) : w s m - w s m = 0 :=
  EReal.sub_self (w_ne_top h) (fun hb => absurd (w_nonneg s m) (by rw [hb]; simp))

/-- Raising the level from `m` to `m'` multiplies each weight by the weight of `m` against `m'`. -/
theorem w_mul {s m m' : EReal} (h : s ≤ m) (h' : m ≤ m') : w s m * w m m' = w s m' := by
  induction m' using EReal.rec with
  | bot => rw [le_bot_iff.mp (h.trans h'), w_bot, w_bot, zero_mul]
  | top => rw [w_top, w_top, mul_zero]
  | coe m' =>
    induction m using EReal.rec with
    | bot => rw [le_bot_iff.mp h, w_bot, w_bot, zero_mul]
    | top => exact absurd (top_le_iff.mp h') (EReal.coe_ne_top m')
    | coe m =>
      induction s using EReal.rec with
      | bot => rw [w_bot, w_bot, zero_mul]
      | top => exact absurd (top_le_iff.mp h) (EReal.coe_ne_top m)
      | coe s =>
        rw [w_coe, w_coe, w_coe, ← EReal.coe_mul, ← Real.exp_add]
        congr 2; ring

/-- What the running triple (level, denominator, numerator) of a softmax over the first `n` tokens is. -/
structure Run (s v : ℕ → EReal) (n : ℕ) (m l a : EReal) : Prop where
  level : m = (Finset.range n).sup s
  den : l = ∑ j ∈ Finset.range n, w (s j) m
  num : a = ∑ j ∈ Finset.range n, w (s j) m * v j

/-- Over no token the triple is (-∞, 0, 0). -/
theorem Run.zero (s v : ℕ → EReal) : Run s v 0 ⊥ 0 0 := ⟨by simp, by simp, by simp⟩

/-- The level of `n + b` tokens. -/
theorem sup_range_add (s : ℕ → EReal) (n b : ℕ) :
    (Finset.range (n + b)).sup s = max ((Finset.range n).sup s) (Finset.univ.sup fun i : Fin b => s (n + i)) := by
  apply le_antisymm
  · refine Finset.sup_le fun j hj => ?_
    by_cases h : j < n
    · exact le_max_of_le_left (Finset.le_sup (f := s) (Finset.mem_range.mpr h))
    · refine le_max_of_le_right ?_
      have hj' := Finset.mem_range.mp hj
      have := Finset.le_sup (f := fun i : Fin b => s (n + i)) (Finset.mem_univ ⟨j - n, by omega⟩)
      simpa [Nat.add_sub_cancel' (Nat.le_of_not_lt h)] using this
  · refine max_le (Finset.sup_mono fun j hj => ?_) (Finset.sup_le fun i _ => ?_)
    · have := Finset.mem_range.mp hj; exact Finset.mem_range.mpr (by omega)
    · exact Finset.le_sup (f := s) (Finset.mem_range.mpr (by have := i.isLt; omega))

/-- One step: `b` more tokens, the old sums rescaled to the new level. -/
theorem Run.step {s v : ℕ → EReal} {n b : ℕ} {m l a m' : EReal} (h : Run s v n m l a)
    (hm : m' = max m (Finset.univ.sup fun i : Fin b => s (n + i))) :
    Run s v (n + b) m' (l * w m m' + ∑ i : Fin b, w (s (n + i)) m')
      (a * w m m' + ∑ i : Fin b, w (s (n + i)) m' * v (n + i)) := by
  have hmm : m ≤ m' := hm ▸ le_max_left _ _
  have hs : ∀ j ∈ Finset.range n, s j ≤ m := fun j hj => h.level ▸ Finset.le_sup (f := s) hj
  refine ⟨?_, ?_, ?_⟩
  · rw [hm, h.level, sup_range_add]
  · rw [Finset.sum_range_add, Finset.sum_range fun x => w (s (n + x)) m']
    rw [h.den, sum_mul_fin _ _ (w_nonneg _ _) (w_ne_top hmm)]
    exact congrArg (· + _) (Finset.sum_congr rfl fun j hj => w_mul (hs j hj) hmm)
  · rw [Finset.sum_range_add, Finset.sum_range fun x => w (s (n + x)) m' * v (n + x)]
    rw [h.num, sum_mul_fin _ _ (w_nonneg _ _) (w_ne_top hmm)]
    refine congrArg (· + _) (Finset.sum_congr rfl fun j hj => ?_)
    rw [mul_assoc, mul_comm (v j), ← mul_assoc, w_mul (hs j hj) hmm]

/-- The triple in one step from nothing: the plain softmax. -/
theorem Run.plain (s v : ℕ → EReal) (n : ℕ) {m : EReal} (hm : m = (Finset.range n).sup s) :
    Run s v n m (∑ j ∈ Finset.range n, w (s j) m) (∑ j ∈ Finset.range n, w (s j) m * v j) := ⟨hm, rfl, rfl⟩

/-- Scaling every value by a finite factor that is not negative scales the numerator. -/
theorem Run.scale {s v : ℕ → EReal} {n : ℕ} {m l a c : EReal} (h : Run s v n m l a) (h0 : 0 ≤ c) (ht : c ≠ ⊤) :
    Run s (fun j => v j * c) n m l (a * c) :=
  ⟨h.level, h.den, by rw [h.num, sum_mul_fin _ _ h0 ht]; exact Finset.sum_congr rfl fun j _ => mul_assoc _ _ _⟩

/-- The triple is determined by the tokens. -/
theorem Run.unique {s v s' v' : ℕ → EReal} {n : ℕ} {m l a m' l' a' : EReal} (h : Run s v n m l a)
    (h' : Run s' v' n m' l' a') (hs : ∀ j < n, s j = s' j) (hv : ∀ j < n, v j = v' j) : m = m' ∧ l = l' ∧ a = a' := by
  have hm : m = m' := by
    rw [h.level, h'.level]
    exact Finset.sup_congr rfl fun j hj => hs j (Finset.mem_range.mp hj)
  refine ⟨hm, ?_, ?_⟩
  · rw [h.den, h'.den, hm]
    exact Finset.sum_congr rfl fun j hj => by rw [hs j (Finset.mem_range.mp hj)]
  · rw [h.num, h'.num, hm]
    exact Finset.sum_congr rfl fun j hj => by rw [hs j (Finset.mem_range.mp hj), hv j (Finset.mem_range.mp hj)]

/-- A fold of `max` from -∞ is the supremum. -/
theorem fold_max_bot {ι : Type*} (S : Finset ι) (f : ι → EReal) : S.fold max ⊥ f = S.sup f := rfl

end Cert.Softmax

end
-- ==== Proof.Spec.lean ====
module

public import proofs.«01_k».proof.Proof.Softmax
public import Idealize.ShloMosaic.Lib.Pointwise

@[expose] public section

noncomputable section

namespace Cert.Softmax

open Idealize.ShloMosaic
open scoped BigOperators

/-- The softmax's scale, 128^(-1/2) as it is written in the programs. -/
abbrev SM : EReal := Ideal.ofBits .f32 0x3DB504F3#32
/-- The largest code, 448, -/
abbrev HI : EReal := Ideal.ofBits .f32 0x43E00000#32
/-- and the smallest. -/
abbrev LO : EReal := Ideal.ofBits .f32 0xC3E00000#32

/-- A code: a quotient by the scale, clamped. -/
def code (x s : EReal) : EReal := min HI (max LO (Ideal.div x s))

/-- The score of token `j`: the cached ones first, the new one last. -/
def sTok (q : Fin 128 → EReal) (K : Fin 16384 → Fin 128 → EReal) (kc : Fin 128 → EReal) (ks : EReal) (j : ℕ) : EReal :=
  if hj : j < 16384 then (∑ d, q d * (K ⟨j, hj⟩ d * ks)) * SM else (∑ d, q d * (kc d * ks)) * SM

/-- The code of token `j` at a lane of the value. -/
def vTok (V : Fin 16384 → EReal) (vn : EReal) (j : ℕ) : EReal := if hj : j < 16384 then V ⟨j, hj⟩ else vn

/-- The attention of one query row over the cache and the new token, at a lane of the value. -/
def attn (q : Fin 128 → EReal) (K : Fin 16384 → Fin 128 → EReal) (kc : Fin 128 → EReal) (ks : EReal)
    (V : Fin 16384 → EReal) (vn vs : EReal) : EReal :=
  Ideal.div
    (∑ j ∈ Finset.range 16385, w (sTok q K kc ks j) ((Finset.range 16385).sup (sTok q K kc ks)) * (vTok V vn j * vs))
    (∑ j ∈ Finset.range 16385, w (sTok q K kc ks j) ((Finset.range 16385).sup (sTok q K kc ks)))

/-- A run over all the tokens ends with the attention. -/
theorem attn_of_run {q : Fin 128 → EReal} {K : Fin 16384 → Fin 128 → EReal} {kc : Fin 128 → EReal} {ks : EReal}
    {V : Fin 16384 → EReal} {vn vs m l a : EReal}
    (h : Run (sTok q K kc ks) (fun j => vTok V vn j * vs) 16385 m l a) : Ideal.div a l = attn q K kc ks V vn vs := by
  rw [attn, ← h.level, ← h.den, ← h.num]

/-- The head a row belongs to. -/
def rowHead (r : Fin 16) : Fin 2 := ⟨r.val / 8, by omega⟩
/-- The head a lane belongs to, -/
def laneHead (c : Fin 256) : Fin 2 := ⟨c.val / 128, by omega⟩
/-- and its place in it. -/
def laneIn (c : Fin 256) : Fin 128 := ⟨c.val % 128, by omega⟩
/-- Lane `d` of row `r` among the query's lanes. -/
def qLane (r : Fin 16) (d : Fin 128) : Fin 2048 := ⟨128 * r.val + d.val, by omega⟩

/-- The attention result from the arguments. -/
def yVal (x : FVec Ideal ⟨3, ![32, 1, 2048]⟩ .bf16) (kn vn : FVec Ideal ⟨4, ![32, 1, 2, 128]⟩ .bf16)
    (K : FVec Ideal ⟨4, ![32, 16384, 2, 128]⟩ .fp8e4m3) (ks : FVec Ideal ⟨1, ![2]⟩ .f32)
    (V : FVec Ideal ⟨4, ![32, 16384, 2, 128]⟩ .fp8e4m3) (vs : FVec Ideal ⟨1, ![2]⟩ .f32)
    (b : Fin 32) (r : Fin 16) (d : Fin 128) : EReal :=
  attn (fun e => x (ix3 b 0 (qLane r e))) (fun j e => K (ix4 b j (rowHead r) e))
    (fun e => code (kn (ix4 b 0 (rowHead r) e)) (ks (ix1 (rowHead r)))) (ks (ix1 (rowHead r)))
    (fun j => V (ix4 b j (rowHead r) d)) (code (vn (ix4 b 0 (rowHead r) d)) (vs (ix1 (rowHead r)))) (vs (ix1 (rowHead r)))

/-- A code result from the arguments. -/
def cVal (x : FVec Ideal ⟨4, ![32, 1, 2, 128]⟩ .bf16) (s : FVec Ideal ⟨1, ![2]⟩ .f32) (b : Fin 32) (c : Fin 256) : EReal :=
  code (x (ix4 b 0 (laneHead c) (laneIn c))) (s (ix1 (laneHead c)))

end Cert.Softmax

end
-- ==== Proof.KernelIdealReads.lean ====
module

public import proofs.«01_k».proof.Proof.KernelIdealRuns
public import Idealize.ShloMosaic.Lib.Pointwise
public import proofs.«01_k».proof.Proof.Spec

@[expose] public section

set_option maxRecDepth 16384

noncomputable section

namespace Cert.KernelIdeal.Hand

open Cert.KernelIdeal.Gen
open Idealize.ShloMosaic
open scoped BigOperators
open Cert.Softmax (w SM HI LO code)

/-! ## Rows and lanes by head -/

/-- Row `g` of head `h`. -/
def row (h : Fin 2) (g : Fin 8) : Fin 16 := ⟨8 * h.val + g.val, by omega⟩
/-- Lane `d` of head `h`. -/
def lane (h : Fin 2) (d : Fin 128) : Fin 256 := ⟨128 * h.val + d.val, by omega⟩

theorem ofBits_neg_inf : Ideal.ofBits .f32 0xFF800000#32 = ⊥ := by
  simp [Ideal.ofBits, Ideal.ieee]

theorem sc0_eq (x : Vec Ideal S2 .f32) : sc0 x = x (ix1 0) := by
  refine congrArg x (funext fun a => ?_)
  match a with
  | ⟨0, _⟩ => rfl
theorem sc1_eq (x : Vec Ideal S2 .f32) : sc1 x = x (ix1 1) := by
  refine congrArg x (funext fun a => ?_)
  match a with
  | ⟨0, _⟩ => rfl
theorem hd0_apply (x : Vec Ideal S1x2x2048x128 .fp8e4m3) (u v : Fin 1) (j : Fin 2048) (d : Fin 128) :
    hd0 x (ix4 u v j d) = x (ix4 0 0 j d) := by
  refine congrArg x (funext fun a => Fin.ext ?_)
  match a with
  | ⟨0, _⟩ => simp [LoadRect.idx, Rect.unit]
  | ⟨1, _⟩ => simp [LoadRect.idx, Rect.unit]
  | ⟨2, _⟩ => simp [LoadRect.idx, Rect.unit]
  | ⟨3, _⟩ => simp [LoadRect.idx, Rect.unit]
theorem hd1_apply (x : Vec Ideal S1x2x2048x128 .fp8e4m3) (u v : Fin 1) (j : Fin 2048) (d : Fin 128) :
    hd1 x (ix4 u v j d) = x (ix4 0 1 j d) := by
  refine congrArg x (funext fun a => Fin.ext ?_)
  match a with
  | ⟨0, _⟩ => simp [LoadRect.idx, Rect.unit]
  | ⟨1, _⟩ => simp [LoadRect.idx, Rect.unit]
  | ⟨2, _⟩ => simp [LoadRect.idx, Rect.unit]
  | ⟨3, _⟩ => simp [LoadRect.idx, Rect.unit]

/-- The mask of head 0's lanes picks by head. -/
theorem sel_lane {α : Type} (c : Fin 256) (a b : α) :
    Scalar.select (IntOp.cmpi .slt (BitVec.ofNat 32 c.val) 128#32) a b = if c.val < 128 then a else b := by
  have h : ∀ c : Fin 256, IntOp.cmpi .slt (BitVec.ofNat 32 c.val) 128#32 = if c.val < 128 then 1#1 else 0#1 := by
    decide +kernel
  rw [h]; split <;> rfl
/-- The mask of head 0's rows picks by head. -/
theorem sel_row {α : Type} (r : Fin 16) (a b : α) :
    Scalar.select (IntOp.cmpi .slt (BitVec.ofNat 32 r.val) 8#32) a b = if r.val < 8 then a else b := by
  have h : ∀ r : Fin 16, IntOp.cmpi .slt (BitVec.ofNat 32 r.val) 8#32 = if r.val < 8 then 1#1 else 0#1 := by
    decide +kernel
  rw [h]; split <;> rfl
/-- The block-diagonal mask picks where row and lane are of one head. -/
theorem sel_diag {α : Type} (r : Fin 16) (c : Fin 256) (a b : α) :
    Scalar.select (IntOp.xori (IntOp.xori (IntOp.cmpi .slt (BitVec.ofNat 32 c.val) 128#32)
      (IntOp.cmpi .slt (BitVec.ofNat 32 r.val) 8#32)) 1#1) a b = if (c.val < 128 ↔ r.val < 8) then a else b := by
  have h : ∀ c : Fin 256, IntOp.cmpi .slt (BitVec.ofNat 32 c.val) 128#32 = if c.val < 128 then 1#1 else 0#1 := by
    decide +kernel
  have h' : ∀ r : Fin 16, IntOp.cmpi .slt (BitVec.ofNat 32 r.val) 8#32 = if r.val < 8 then 1#1 else 0#1 := by
    decide +kernel
  rw [h, h']
  by_cases h1 : c.val < 128 <;> by_cases h2 : r.val < 8 <;> simp [h1, h2] <;> rfl

/-- The block-diagonal query at a row of head `h` and a lane of head `h'`. -/
theorem qbd_apply (x2 : Vec Ideal S1x16x128 .bf16) (h h' : Fin 2) (g : Fin 8) (d : Fin 128) :
    qbd x2 (ix2 (row h g) (lane h' d)) = if h = h' then x2 (ix3 0 (row h g) d) else 0 := by
  pointwise [k0_pay1, laneIota, rowIota, k0_pay46]
  rw [sel_diag]
  fin_cases h <;> fin_cases h' <;> simp [row, lane]

/-- A sum over the lanes is the sum over head 0's and the sum over head 1's. -/
theorem sum_lane (f : Fin 256 → EReal) : ∑ c, f c = ∑ d, f (lane 0 d) + ∑ d, f (lane 1 d) := by
  rw [Fin.sum_univ_add (a := 128) (b := 128) f]
  congr 1

/-- A product of the block-diagonal query with a lane vector is the head's own product. -/
theorem sum_qbd (x2 : Vec Ideal S1x16x128 .bf16) (h : Fin 2) (g : Fin 8) (f : Fin 256 → EReal) :
    ∑ c, qbd x2 (ix2 (row h g) c) * f c = ∑ d, x2 (ix3 0 (row h g) d) * f (lane h d) := by
  rw [sum_lane]
  simp only [qbd_apply]
  fin_cases h <;> simp

/-- The two heads' blocks side by side. -/
theorem cat_apply (h : Fin 2) (a b : FVec Ideal S2048x128 .fp8e4m3) (j : Fin 2048) (d : Fin 128) :
    concatenate S2048x256 1 [⟨S2048x128, a⟩, ⟨S2048x128, b⟩] concatenates_S2048x128_S2048x128_S2048x256_d1 (ix2 j (lane h d))
      = if h = 0 then a (ix2 j d) else b (ix2 j d) := by
  pointwise
  fin_cases h <;> simp [lane]

/-- The value codes of one block at a lane of head `h`. -/
theorem pay23_gen (k0 k1 : Vec Ideal S1x1x2048x128 .fp8e4m3) (h : Fin 2) (j : Fin 2048) (d : Fin 128) :
    k0_pay23 k0 k1 (ix2 j (lane h d)) = if h = 0 then k0 (ix4 0 0 j d) else k1 (ix4 0 0 j d) := by
  pointwise [k0_pay23]
  fin_cases h <;> simp [lane]
theorem pay23_apply (x6 : Vec Ideal S1x2x2048x128 .fp8e4m3) (h : Fin 2) (j : Fin 2048) (d : Fin 128) :
    k0_pay23 (hd0 x6) (hd1 x6) (ix2 j (lane h d)) = x6 (ix4 0 h j d) := by
  rw [pay23_gen, hd0_apply, hd1_apply]
  fin_cases h <;> rfl

/-- The dequantised values of one block at a lane of head `h`. -/
theorem pay28_gen (v0 v1 : Elt Ideal .f32) (k0 k1 : Vec Ideal S1x1x2048x128 .fp8e4m3) (h : Fin 2) (j : Fin 2048) (d : Fin 128) :
    k0_pay28 v0 v1 k0 k1 (ix2 j (lane h d)) = if h = 0 then k0 (ix4 0 0 j d) * v0 else k1 (ix4 0 0 j d) * v1 := by
  pointwise [k0_pay28]
  rw [sel_lane]
  fin_cases h <;> simp [lane]
theorem pay28_apply (x1 : Vec Ideal S2 .f32) (x6 : Vec Ideal S1x2x2048x128 .fp8e4m3) (h : Fin 2) (j : Fin 2048) (d : Fin 128) :
    k0_pay28 (sc0 x1) (sc1 x1) (hd0 x6) (hd1 x6) (ix2 j (lane h d)) = x6 (ix4 0 h j d) * x1 (ix1 h) := by
  rw [pay28_gen, hd0_apply, hd1_apply, sc0_eq, sc1_eq]
  fin_cases h <;> rfl

/-! ## Scores of one block -/

/-- The score of cached token `j` for row `g` of head `h`. -/
def sc (x0 : Vec Ideal S2 .f32) (x2 : Vec Ideal S1x16x128 .bf16) (x5 : Vec Ideal S1x2x2048x128 .fp8e4m3)
    (h : Fin 2) (g : Fin 8) (j : Fin 2048) : EReal :=
  (∑ d : Fin 128, x2 (ix3 0 (row h g) d) * (x5 (ix4 0 h j d) * x0 (ix1 h))) * SM

/-- The score where the cache is dequantised first. -/
theorem pay29_gen (v0 v1 : Elt Ideal .f32) (q : FVec Ideal S16x256 .bf16) (k0 k1 : Vec Ideal S1x1x2048x128 .fp8e4m3)
    (r : Fin 16) (j : Fin 2048) :
    k0_pay29 v0 v1 q k0 k1 (ix2 r j)
      = (∑ d, q (ix2 r (lane 0 d)) * (k0 (ix4 0 0 j d) * v0) + ∑ d, q (ix2 r (lane 1 d)) * (k1 (ix4 0 0 j d) * v1)) * SM := by
  pointwise [k0_pay29]
  have h0 : ∀ d : Fin 128, Scalar.select (IntOp.cmpi .slt (BitVec.ofNat 32 d.val) 128#32) v0 v1 = v0 := fun d => by
    have := sel_lane (lane 0 d) v0 v1
    simp only [lane, Fin.val_zero, Nat.mul_zero, Nat.zero_add] at this
    rw [this, if_pos d.isLt]
  have h1 : ∀ d : Fin 128, Scalar.select (IntOp.cmpi .slt (BitVec.ofNat 32 (128 + d.val)) 128#32) v0 v1 = v1 := fun d => by
    have := sel_lane (lane 1 d) v0 v1
    simp only [lane, Fin.val_one, Nat.mul_one] at this
    rw [this, if_neg (by omega)]
  simp only [h0, h1]
  congr 2
theorem pay29_apply (x0 : Vec Ideal S2 .f32) (x2 : Vec Ideal S1x16x128 .bf16) (x5 : Vec Ideal S1x2x2048x128 .fp8e4m3)
    (h : Fin 2) (g : Fin 8) (j : Fin 2048) :
    k0_pay29 (sc0 x0) (sc1 x0) (qbd x2) (hd0 x5) (hd1 x5) (ix2 (row h g) j) = sc x0 x2 x5 h g j := by
  rw [pay29_gen, sc0_eq, sc1_eq]
  have e0 := hd0_apply x5 0 0 j
  have e1 := hd1_apply x5 0 0 j
  generalize hd0 x5 = K0 at *
  generalize hd1 x5 = K1 at *
  simp only [e0, e1, qbd_apply, sc]
  fin_cases h <;> simp

/-- The score where the scales are folded into the softmax's scale, at scales that are finite and not negative. -/
theorem pay24_gen (v0 v1 : Elt Ideal .f32) (q : FVec Ideal S16x256 .bf16) (k0 k1 : Vec Ideal S1x1x2048x128 .fp8e4m3)
    (r : Fin 16) (j : Fin 2048) :
    k0_pay24 v0 v1 q k0 k1 (ix2 r j)
      = (∑ d, q (ix2 r (lane 0 d)) * k0 (ix4 0 0 j d) + ∑ d, q (ix2 r (lane 1 d)) * k1 (ix4 0 0 j d))
        * (if r.val < 8 then v0 * SM else v1 * SM) := by
  pointwise [k0_pay24]
  rw [sel_row]
  congr 2
theorem pay24_apply (x0 : Vec Ideal S2 .f32) (x2 : Vec Ideal S1x16x128 .bf16) (x5 : Vec Ideal S1x2x2048x128 .fp8e4m3)
    (hx : ∀ h, 0 ≤ x0 (ix1 h) ∧ x0 (ix1 h) ≠ ⊤) (h : Fin 2) (g : Fin 8) (j : Fin 2048) :
    k0_pay24 (sc0 x0) (sc1 x0) (qbd x2) (hd0 x5) (hd1 x5) (ix2 (row h g) j) = sc x0 x2 x5 h g j := by
  have e : sc x0 x2 x5 h g j = (∑ d : Fin 128, x2 (ix3 0 (row h g) d) * x5 (ix4 0 h j d)) * (x0 (ix1 h) * SM) := by
    rw [← mul_assoc, Cert.Softmax.sum_mul_fin _ _ (hx h).1 (hx h).2, sc]
    simp only [mul_assoc]
  rw [e, pay24_gen, sc0_eq, sc1_eq]
  clear e
  have e0 := hd0_apply x5 0 0 j
  have e1 := hd1_apply x5 0 0 j
  generalize hd0 x5 = K0 at *
  generalize hd1 x5 = K1 at *
  simp only [e0, e1, qbd_apply]
  fin_cases h <;> simp [row]

/-! ## One block taken in -/

/-- The level after a block, -/
theorem pay25_gen (v0 v1 : Elt Ideal .f32) (q : FVec Ideal S16x256 .bf16) (k0 k1 : Vec Ideal S1x1x2048x128 .fp8e4m3)
    (m : Vec Ideal S16x1 .f32) (r : Fin 16) :
    k0_pay25 v0 v1 q k0 k1 m (ix2 r 0)
      = max (m (ix2 r 0)) (Finset.univ.sup fun j : Fin 2048 => k0_pay24 v0 v1 q k0 k1 (ix2 r j)) := by
  pointwise [k0_pay25]
  rw [ofBits_neg_inf]; rfl
theorem pay30_gen (v0 v1 : Elt Ideal .f32) (q : FVec Ideal S16x256 .bf16) (k0 k1 : Vec Ideal S1x1x2048x128 .fp8e4m3)
    (m : Vec Ideal S16x1 .f32) (r : Fin 16) :
    k0_pay30 v0 v1 q k0 k1 m (ix2 r 0)
      = max (m (ix2 r 0)) (Finset.univ.sup fun j : Fin 2048 => k0_pay29 v0 v1 q k0 k1 (ix2 r j)) := by
  pointwise [k0_pay30]
  rw [ofBits_neg_inf]; rfl
/-- the old level's weight, -/
theorem pay26_gen (v0 v1 : Elt Ideal .f32) (q : FVec Ideal S16x256 .bf16) (k0 k1 : Vec Ideal S1x1x2048x128 .fp8e4m3)
    (m : Vec Ideal S16x1 .f32) (r : Fin 16) :
    k0_pay26 v0 v1 q k0 k1 m (ix2 r 0) = w (m (ix2 r 0)) (k0_pay25 v0 v1 q k0 k1 m (ix2 r 0)) := by
  pointwise [k0_pay26]
  rfl
theorem pay8_gen (m mn : FVec Ideal S16x1 .f32) (r : Fin 16) : k0_pay8 m mn (ix2 r 0) = w (m (ix2 r 0)) (mn (ix2 r 0)) := by
  pointwise [k0_pay8]
  rfl
/-- the tokens' weights, -/
theorem pay27_gen (v0 v1 : Elt Ideal .f32) (q : FVec Ideal S16x256 .bf16) (k0 k1 : Vec Ideal S1x1x2048x128 .fp8e4m3)
    (m : Vec Ideal S16x1 .f32) (r : Fin 16) (j : Fin 2048) :
    k0_pay27 v0 v1 q k0 k1 m (ix2 r j) = w (k0_pay24 v0 v1 q k0 k1 (ix2 r j)) (k0_pay25 v0 v1 q k0 k1 m (ix2 r 0)) := by
  pointwise [k0_pay27]
  rfl
theorem pay9_gen (s : FVec Ideal S16x2048 .f32) (mn : FVec Ideal S16x1 .f32) (r : Fin 16) (j : Fin 2048) :
    k0_pay9 s mn (ix2 r j) = w (s (ix2 r j)) (mn (ix2 r 0)) := by
  pointwise [k0_pay9]
  rfl
/-- the denominator, -/
theorem pay5_gen (al : FVec Ideal S16x1 .f32) (p : FVec Ideal S16x2048 .f32) (l : Vec Ideal S16x1 .f32) (r : Fin 16) :
    k0_pay5 al p l (ix2 r 0) = l (ix2 r 0) * al (ix2 r 0) + ∑ j : Fin 2048, p (ix2 r j) := by
  pointwise [k0_pay5]
theorem pay10_gen (s : FVec Ideal S16x2048 .f32) (m : Vec Ideal S16x1 .f32) (mn : FVec Ideal S16x1 .f32) (l : Vec Ideal S16x1 .f32)
    (r : Fin 16) :
    k0_pay10 s m mn l (ix2 r 0) = l (ix2 r 0) * k0_pay8 m mn (ix2 r 0) + ∑ j : Fin 2048, k0_pay9 s mn (ix2 r j) := by
  pointwise [k0_pay10]
/-- and the numerator: a weight less itself is zero, so the second and third parts of the split weights are. -/
theorem pay6_gen (V : FVec Ideal S2048x256 .fp8e4m3) (al : FVec Ideal S16x1 .f32) (p : FVec Ideal S16x2048 .f32)
    (a : Vec Ideal S16x256 .f32) (r : Fin 16) (c : Fin 256) (hp : ∀ r j, p (ix2 r j) - p (ix2 r j) = 0) :
    k0_pay6 V al p a (ix2 r c) = a (ix2 r c) * al (ix2 r 0) + ∑ j : Fin 2048, p (ix2 r j) * V (ix2 j c) := by
  pointwise [k0_pay6]
  have hr : ¬ 32 + r.val < 16 := by omega
  simp [hp, hr]
theorem pay11_gen (V : FVec Ideal S2048x256 .bf16) (s : FVec Ideal S16x2048 .f32) (m : Vec Ideal S16x1 .f32)
    (mn : FVec Ideal S16x1 .f32) (a : Vec Ideal S16x256 .f32) (r : Fin 16) (c : Fin 256)
    (hp : ∀ r j, k0_pay9 s mn (ix2 r j) - k0_pay9 s mn (ix2 r j) = 0) :
    k0_pay11 V s m mn a (ix2 r c)
      = a (ix2 r c) * k0_pay8 m mn (ix2 r 0) + ∑ j : Fin 2048, k0_pay9 s mn (ix2 r j) * V (ix2 j c) := by
  pointwise [k0_pay11]
  have hr : ¬ 32 + r.val < 16 := by omega
  simp [hp, hr]
theorem pay7_gen (m : FVec Ideal S16x1 .f32) (r : Fin 16) : k0_pay7 m (ix2 r 0) = m (ix2 r 0) := by
  pointwise [k0_pay7]
theorem pay12_gen (m : FVec Ideal S16x1 .f32) (r : Fin 16) : k0_pay12 m (ix2 r 0) = m (ix2 r 0) := by
  pointwise [k0_pay12]

/-! ## The new token -/

/-- The new key's codes at a lane of head `h`. -/
theorem pay37_apply (x0 : Vec Ideal S2 .f32) (x3 : Vec Ideal S1x1x256 .bf16) (h : Fin 2) (d : Fin 128) :
    k0_pay37 (sc0 x0) (sc1 x0) x3 (ix2 0 (lane h d)) = code (x3 (ix3 0 0 (lane h d))) (x0 (ix1 h)) := by
  rw [sc0_eq, sc1_eq]
  pointwise [k0_pay37]
  rw [sel_lane, code]
  fin_cases h <;> simp [lane]
/-- The new value's codes at a lane of head `h`. -/
theorem pay38_apply (x1 : Vec Ideal S2 .f32) (x4 : Vec Ideal S1x1x256 .bf16) (h : Fin 2) (d : Fin 128) :
    k0_pay38 (sc0 x1) (sc1 x1) x4 (ix2 0 (lane h d)) = code (x4 (ix3 0 0 (lane h d))) (x1 (ix1 h)) := by
  rw [sc0_eq, sc1_eq]
  pointwise [k0_pay38]
  rw [sel_lane, code]
  fin_cases h <;> simp [lane]
/-- The code results hold these codes. -/
theorem pay39_apply (x0 : Vec Ideal S2 .f32) (x3 : Vec Ideal S1x1x256 .bf16) (h : Fin 2) (d : Fin 128) :
    k0_pay39 (sc0 x0) (sc1 x0) x3 (ix3 0 0 (lane h d)) = code (x3 (ix3 0 0 (lane h d))) (x0 (ix1 h)) := by
  rw [← pay37_apply]
  pointwise [k0_pay39]
theorem pay40_apply (x1 : Vec Ideal S2 .f32) (x4 : Vec Ideal S1x1x256 .bf16) (h : Fin 2) (d : Fin 128) :
    k0_pay40 (sc0 x1) (sc1 x1) x4 (ix3 0 0 (lane h d)) = code (x4 (ix3 0 0 (lane h d))) (x1 (ix1 h)) := by
  rw [← pay38_apply]
  pointwise [k0_pay40]

/-- The new key dequantised. -/
theorem pay13_apply (x0 : Vec Ideal S2 .f32) (k : FVec Ideal S1x256 .fp8e4m3) (h : Fin 2) (d : Fin 128) :
    k0_pay13 (sc0 x0) (sc1 x0) k k0_pay41 (ix2 0 (lane h d)) = k (ix2 0 (lane h d)) * x0 (ix1 h) := by
  rw [sc0_eq, sc1_eq]
  pointwise [k0_pay13, k0_pay41]
  rw [sel_lane]
  fin_cases h <;> simp [lane]

/-- The score of the new token for row `g` of head `h`. -/
def scN (x0 : Vec Ideal S2 .f32) (x2 : Vec Ideal S1x16x128 .bf16) (x3 : Vec Ideal S1x1x256 .bf16) (h : Fin 2) (g : Fin 8) : EReal :=
  (∑ d : Fin 128, x2 (ix3 0 (row h g) d) * (code (x3 (ix3 0 0 (lane h d))) (x0 (ix1 h)) * x0 (ix1 h))) * SM

theorem pay31_gen (q : FVec Ideal S16x256 .bf16) (k : FVec Ideal S1x256 .bf16) (r : Fin 16) :
    k0_pay31 q k (ix2 r 0) = (∑ c : Fin 256, q (ix2 r c) * k (ix2 0 c)) * SM := by
  pointwise [k0_pay31]
theorem pay31_apply (x0 : Vec Ideal S2 .f32) (x2 : Vec Ideal S1x16x128 .bf16) (x3 : Vec Ideal S1x1x256 .bf16) (h : Fin 2) (g : Fin 8) :
    k0_pay31 (qbd x2) (k0_pay13 (sc0 x0) (sc1 x0) (kcode x0 x3) k0_pay41) (ix2 (row h g) 0) = scN x0 x2 x3 h g := by
  rw [pay31_gen, sum_qbd, scN]
  refine congrArg (· * SM) (Finset.sum_congr rfl fun d _ => ?_)
  rw [pay13_apply, kcode, pay37_apply]
/-- The folded case's score is the same term. -/
theorem pay14_eq (v0 v1 : Elt Ideal .f32) (q : FVec Ideal S16x128 .bf16) (k : FVec Ideal S1x256 .fp8e4m3) (c : IVec S1x256 1) :
    k0_pay14 v0 v1 q laneIota rowIota k c = k0_pay31 (k0_pay1 q laneIota rowIota) (k0_pay13 v0 v1 k c) := rfl

/-- The level after the new token, -/
theorem pay32_gen (q : FVec Ideal S16x256 .bf16) (k : FVec Ideal S1x256 .bf16) (m : Vec Ideal S16x1 .f32) (r : Fin 16) :
    k0_pay32 q k m (ix2 r 0) = max (m (ix2 r 0)) (k0_pay31 q k (ix2 r 0)) := by
  pointwise [k0_pay32]
  rw [ofBits_neg_inf]; simp
theorem pay15_eq (v0 v1 : Elt Ideal .f32) (q : FVec Ideal S16x128 .bf16) (k : FVec Ideal S1x256 .fp8e4m3) (c : IVec S1x256 1)
    (m : Vec Ideal S16x1 .f32) :
    k0_pay15 v0 v1 q laneIota rowIota k c m = k0_pay32 (k0_pay1 q laneIota rowIota) (k0_pay13 v0 v1 k c) m := rfl
/-- the old level's weight, -/
theorem pay33_gen (q : FVec Ideal S16x256 .bf16) (k : FVec Ideal S1x256 .bf16) (m : Vec Ideal S16x1 .f32) (r : Fin 16) :
    k0_pay33 q k m (ix2 r 0) = w (m (ix2 r 0)) (k0_pay32 q k m (ix2 r 0)) := by
  pointwise [k0_pay33]
  rfl
/-- the new token's weight, -/
theorem pay34_gen (q : FVec Ideal S16x256 .bf16) (k : FVec Ideal S1x256 .bf16) (m : Vec Ideal S16x1 .f32) (r : Fin 16) :
    k0_pay34 q k m (ix2 r 0) = w (k0_pay31 q k (ix2 r 0)) (k0_pay32 q k m (ix2 r 0)) := by
  pointwise [k0_pay34]
  rfl
/-- the denominator, -/
theorem pay35_gen (q : FVec Ideal S16x256 .bf16) (k : FVec Ideal S1x256 .bf16) (m l : Vec Ideal S16x1 .f32) (r : Fin 16) :
    k0_pay35 q k m l (ix2 r 0) = l (ix2 r 0) * k0_pay33 q k m (ix2 r 0) + k0_pay34 q k m (ix2 r 0) := by
  pointwise [k0_pay35]
  simp
theorem pay18_eq (v0 v1 : Elt Ideal .f32) (q : FVec Ideal S16x128 .bf16) (k : FVec Ideal S1x256 .fp8e4m3) (c : IVec S1x256 1)
    (m l : Vec Ideal S16x1 .f32) :
    k0_pay18 v0 v1 q laneIota rowIota k c m l = k0_pay35 (k0_pay1 q laneIota rowIota) (k0_pay13 v0 v1 k c) m l := rfl
/-- and the numerator. -/
theorem pay36_apply (x1 : Vec Ideal S2 .f32) (q : FVec Ideal S16x256 .bf16) (v : FVec Ideal S1x256 .fp8e4m3) (k : FVec Ideal S1x256 .bf16)
    (m : Vec Ideal S16x1 .f32) (a : Vec Ideal S16x256 .f32) (r : Fin 16) (h : Fin 2) (d : Fin 128) :
    k0_pay36 (sc0 x1) (sc1 x1) q v k m a (ix2 r (lane h d))
      = a (ix2 r (lane h d)) * k0_pay33 q k m (ix2 r 0) + k0_pay34 q k m (ix2 r 0) * (v (ix2 0 (lane h d)) * x1 (ix1 h)) := by
  rw [sc0_eq, sc1_eq]
  pointwise [k0_pay36]
  rw [sel_lane]
  fin_cases h <;> simp [lane]
theorem pay19_apply (v0 v1 : Elt Ideal .f32) (q : FVec Ideal S16x128 .bf16) (k v : FVec Ideal S1x256 .fp8e4m3) (c : IVec S1x256 1)
    (m : Vec Ideal S16x1 .f32) (a : Vec Ideal S16x256 .f32) (r : Fin 16) (e : Fin 256) :
    k0_pay19 v0 v1 q laneIota rowIota k v c m a (ix2 r e)
      = a (ix2 r e) * k0_pay33 (k0_pay1 q laneIota rowIota) (k0_pay13 v0 v1 k c) m (ix2 r 0)
        + k0_pay34 (k0_pay1 q laneIota rowIota) (k0_pay13 v0 v1 k c) m (ix2 r 0) * v (ix2 0 e) := by
  have e1 : k0_pay16 v0 v1 q laneIota rowIota k c m = k0_pay33 (k0_pay1 q laneIota rowIota) (k0_pay13 v0 v1 k c) m := rfl
  have e2 : k0_pay17 v0 v1 q laneIota rowIota k c m = k0_pay34 (k0_pay1 q laneIota rowIota) (k0_pay13 v0 v1 k c) m := rfl
  rw [← e1, ← e2]
  generalize laneIota = L
  generalize rowIota = R
  pointwise [k0_pay19]
theorem pay20_gen (v0 v1 : Elt Ideal .f32) (q : FVec Ideal S16x128 .bf16) (k : FVec Ideal S1x256 .fp8e4m3) (c : IVec S1x256 1)
    (m : Vec Ideal S16x1 .f32) (r : Fin 16) :
    k0_pay20 v0 v1 q laneIota rowIota k c m (ix2 r 0) = k0_pay32 (k0_pay1 q laneIota rowIota) (k0_pay13 v0 v1 k c) m (ix2 r 0) := by
  rw [← pay15_eq]
  generalize laneIota = L
  generalize rowIota = R
  pointwise [k0_pay20]
theorem pay21_gen (m : FVec Ideal S16x1 .f32) (r : Fin 16) : k0_pay21 m (ix2 r 0) = m (ix2 r 0) := by
  pointwise [k0_pay21]

/-- The output at row `g` of head `h`: the quotient at the head's own lanes, scaled where the scales were folded. -/
theorem pay22_apply (x1 : Vec Ideal S2 .f32) (b : BitVec 1) (a : Vec Ideal S16x256 .f32) (l : Vec Ideal S16x1 .f32)
    (h : Fin 2) (g : Fin 8) (d : Fin 128) :
    k0_pay22 (sc0 x1) (sc1 x1) b a l (ix3 0 (row h g) d)
      = Ideal.div (if b = 1#1 then a (ix2 (row h g) (lane h d)) * x1 (ix1 h) else a (ix2 (row h g) (lane h d))) (l (ix2 (row h g) 0)) := by
  rw [sc0_eq, sc1_eq]
  have s0 := sel_lane ⟨d.val, by omega⟩ (x1 (ix1 0)) (x1 (ix1 1))
  have s1 := sel_lane ⟨128 + d.val, by omega⟩ (x1 (ix1 0)) (x1 (ix1 1))
  dsimp only at s0 s1
  rw [if_pos d.isLt] at s0
  rw [if_neg (by omega)] at s1
  have l0 : (⟨d.val, by omega⟩ : Fin 256) = lane 0 d := Fin.ext (by simp [lane])
  have l1 : (⟨128 + d.val, by omega⟩ : Fin 256) = lane 1 d := Fin.ext (by simp [lane])
  have r1 : (⟨8 + ((row 1 g).val - 8), by have := g.isLt; simp [row]; omega⟩ : Fin 16) = row 1 g := Fin.ext (by simp [row])
  have p0 : (row 0 g).val < 8 := by have := g.isLt; simp [row]
  have p1 : ¬ (row 1 g).val < 8 := by simp [row]
  rcases (by revert b; decide : b = 1#1 ∨ b = 0#1) with hb | hb <;> subst hb
  · fin_cases h
    · pointwise [k0_pay22]
      rw [dif_pos p0, s0, l0]
    · pointwise [k0_pay22]
      rw [dif_neg p1, s1, l1, r1]
  · rw [if_neg (by decide)]
    fin_cases h
    · pointwise [k0_pay22]
      rw [dif_pos p0, l0]
    · pointwise [k0_pay22]
      rw [dif_neg p1, l1, r1]

/-- Folding happens at finite scales that are not negative only. -/
theorem okS_fin (p s : EReal) (h : okS (F := Ideal) p s = 1#1) : 0 ≤ s ∧ s ≠ ⊤ := by
  have hand : ∀ a b : BitVec 1, a &&& b = 1#1 → a = 1#1 ∧ b = 1#1 := by decide
  have h1 := hand _ _ h
  have h2 := hand _ _ h1.1
  have e1 : Ideal.ofBits .f32 0x1F800000#32 ≤ s := by
    have := h2.2
    by_contra hc
    have e : (Scalar.cmpf (F := Ideal) .oge s (Scalar.ofBits .f32 0x1F800000#32) : BitVec 1) = BitVec.ofBool (decide (Ideal.ofBits .f32 0x1F800000#32 ≤ s)) := rfl
    rw [e, decide_eq_false hc] at this
    exact absurd this (by decide)
  have e2 : s ≤ Ideal.ofBits .f32 0x5F800000#32 := by
    have := h1.2
    by_contra hc
    have e : (Scalar.cmpf (F := Ideal) .ole s (Scalar.ofBits .f32 0x5F800000#32) : BitVec 1) = BitVec.ofBool (decide (s ≤ Ideal.ofBits .f32 0x5F800000#32)) := rfl
    rw [e, decide_eq_false hc] at this
    exact absurd this (by decide)
  have z1 : (0 : EReal) ≤ Ideal.ofBits .f32 0x1F800000#32 := by
    simp [Ideal.ofBits, Ideal.ieee, -EReal.coe_mul]
  have z2 : Ideal.ofBits .f32 0x5F800000#32 ≠ ⊤ := by
    simp [Ideal.ofBits, Ideal.ieee, -EReal.coe_mul]
  exact ⟨z1.trans e1, fun ht => z2 (top_le_iff.mp (ht ▸ e2))⟩
theorem foldBit_fin (x0 x1 : Vec Ideal S2 .f32) (h : foldBit x0 x1 = 1#1) :
    (∀ k, 0 ≤ x0 (ix1 k) ∧ x0 (ix1 k) ≠ ⊤) ∧ ∀ k, 0 ≤ x1 (ix1 k) ∧ x1 (ix1 k) ≠ ⊤ := by
  have hand : ∀ a b : BitVec 1, a &&& b = 1#1 → a = 1#1 ∧ b = 1#1 := by decide
  have h1 := hand _ _ h
  have h2 := hand _ _ h1.1
  have h3 := hand _ _ h2.1
  have a0 := okS_fin _ _ h3.1
  have a1 := okS_fin _ _ h3.2
  have b0 := okS_fin _ _ h2.2
  have b1 := okS_fin _ _ h1.2
  rw [sc0_eq] at a0 b0
  rw [sc1_eq] at a1 b1
  exact ⟨fun k => by fin_cases k <;> assumption, fun k => by fin_cases k <;> assumption⟩

end Cert.KernelIdeal.Hand

end
-- ==== Proof.KernelIdealSteps.lean ====
module

public import proofs.«01_k».proof.Proof.KernelIdealReads

@[expose] public section

set_option maxRecDepth 20000

noncomputable section

namespace Cert.KernelIdeal.Hand

open Cert.KernelIdeal.Gen Idealize.ShloMosaic
open scoped BigOperators
open Cert.Softmax (w SM HI LO code)

/-! ## The running softmax -/

/-- What a row's state is, for a lane of the row's own head. -/
def IsRun (S V : ℕ → EReal) (n : ℕ) (h : Fin 2) (g : Fin 8) (d : Fin 128)
    (s : Vec Ideal S16x1 .f32 × Vec Ideal S16x1 .f32 × Vec Ideal S16x256 .f32) : Prop :=
  Cert.Softmax.Run S V n (s.1 (ix2 (row h g) 0)) (s.2.1 (ix2 (row h g) 0)) (s.2.2 (ix2 (row h g) (lane h d)))

/-- The value a token is weighted with: the code alone where the scales are folded. -/
def vc (x0 x1 : Vec Ideal S2 .f32) (h : Fin 2) (v : EReal) : EReal :=
  if foldBit x0 x1 = 1#1 then v else v * x1 (ix1 h)

/-- One block of the cache: 2048 tokens more. -/
theorem cacheStep_run (x0 x1 : Vec Ideal S2 .f32) (x2 : Vec Ideal S1x16x128 .bf16) (x5 x6 : Vec Ideal S1x2x2048x128 .fp8e4m3)
    (s : Vec Ideal S16x1 .f32 × Vec Ideal S16x1 .f32 × Vec Ideal S16x256 .f32) (S V : ℕ → EReal) (n : ℕ) (h : Fin 2) (g : Fin 8) (d : Fin 128)
    (hS : ∀ j : Fin 2048, S (n + j) = sc x0 x2 x5 h g j)
    (hV : ∀ j : Fin 2048, V (n + j) = vc x0 x1 h (x6 (ix4 0 h j d)))
    (hr : IsRun S V n h g d s) : IsRun S V (n + 2048) h g d (cacheStep x0 x1 x2 x5 x6 s) := by
  unfold IsRun
  by_cases hf : foldBit x0 x1 = 1#1
  · have hx := (foldBit_fin x0 x1 hf).1
    have e0 : ∀ j : Fin 2048, k0_pay24 (sc0 x0) (sc1 x0) (qbd x2) (hd0 x5) (hd1 x5) (ix2 (row h g) j) = S (n + j) := fun j => by
      rw [pay24_apply x0 x2 x5 hx h g j, hS]
    have e1 : (k0_pay25 (sc0 x0) (sc1 x0) (qbd x2) (hd0 x5) (hd1 x5) s.1) (ix2 (row h g) 0)
        = max (s.1 (ix2 (row h g) 0)) (Finset.univ.sup fun j : Fin 2048 => S (n + j)) := by
      rw [pay25_gen]
      exact congrArg (max _) (Finset.sup_congr rfl fun j _ => e0 j)
    have hw : ∀ r j, k0_pay27 (sc0 x0) (sc1 x0) (qbd x2) (hd0 x5) (hd1 x5) s.1 (ix2 r j)
        - k0_pay27 (sc0 x0) (sc1 x0) (qbd x2) (hd0 x5) (hd1 x5) s.1 (ix2 r j) = 0 := fun r j => by
      rw [pay27_gen]
      refine Cert.Softmax.w_sub_self ?_
      rw [pay25_gen]
      exact le_max_of_le_right (Finset.le_sup (f := fun j => k0_pay24 (sc0 x0) (sc1 x0) (qbd x2) (hd0 x5) (hd1 x5) (ix2 r j)) (Finset.mem_univ j))
    have e7 : ∀ j : Fin 2048, k0_pay23 (hd0 x6) (hd1 x6) (ix2 j (lane h d)) = V (n + j) := fun j => by
      rw [pay23_apply, hV, vc, if_pos hf]
    have hstep := hr.step e1
    rw [cacheStep, if_pos hf]
    dsimp only
    rw [pay7_gen, pay5_gen, pay6_gen _ _ _ _ _ _ hw, pay26_gen]
    simp only [pay27_gen, e0, e7]
    exact hstep
  · have e0 : ∀ j : Fin 2048, k0_pay29 (sc0 x0) (sc1 x0) (qbd x2) (hd0 x5) (hd1 x5) (ix2 (row h g) j) = S (n + j) := fun j => by
      rw [pay29_apply x0 x2 x5 h g j, hS]
    have e1 : (k0_pay30 (sc0 x0) (sc1 x0) (qbd x2) (hd0 x5) (hd1 x5) s.1) (ix2 (row h g) 0)
        = max (s.1 (ix2 (row h g) 0)) (Finset.univ.sup fun j : Fin 2048 => S (n + j)) := by
      rw [pay30_gen]
      exact congrArg (max _) (Finset.sup_congr rfl fun j _ => e0 j)
    have hw : ∀ r j, k0_pay9 (k0_pay29 (sc0 x0) (sc1 x0) (qbd x2) (hd0 x5) (hd1 x5)) (k0_pay30 (sc0 x0) (sc1 x0) (qbd x2) (hd0 x5) (hd1 x5) s.1) (ix2 r j)
        - k0_pay9 (k0_pay29 (sc0 x0) (sc1 x0) (qbd x2) (hd0 x5) (hd1 x5)) (k0_pay30 (sc0 x0) (sc1 x0) (qbd x2) (hd0 x5) (hd1 x5) s.1) (ix2 r j) = 0 := fun r j => by
      rw [pay9_gen]
      refine Cert.Softmax.w_sub_self ?_
      rw [pay30_gen]
      exact le_max_of_le_right (Finset.le_sup (f := fun j => k0_pay29 (sc0 x0) (sc1 x0) (qbd x2) (hd0 x5) (hd1 x5) (ix2 r j)) (Finset.mem_univ j))
    have e7 : ∀ j : Fin 2048, k0_pay28 (sc0 x1) (sc1 x1) (hd0 x6) (hd1 x6) (ix2 j (lane h d)) = V (n + j) := fun j => by
      rw [pay28_apply, hV, vc, if_neg hf]
    have hstep := hr.step e1
    rw [cacheStep, if_neg hf]
    dsimp only
    rw [pay12_gen, pay10_gen, pay11_gen _ _ _ _ _ _ _ hw, pay8_gen]
    simp only [pay9_gen, e0, e7]
    exact hstep

/-- The new token: one token more. -/
theorem tokenStep_run (x0 x1 : Vec Ideal S2 .f32) (x2 : Vec Ideal S1x16x128 .bf16) (x3 x4 : Vec Ideal S1x1x256 .bf16)
    (s : Vec Ideal S16x1 .f32 × Vec Ideal S16x1 .f32 × Vec Ideal S16x256 .f32) (S V : ℕ → EReal) (n : ℕ) (h : Fin 2) (g : Fin 8) (d : Fin 128)
    (hS : S n = scN x0 x2 x3 h g)
    (hV : V n = vc x0 x1 h (code (x4 (ix3 0 0 (lane h d))) (x1 (ix1 h))))
    (hr : IsRun S V n h g d s) : IsRun S V (n + 1) h g d (tokenStep x0 x1 x2 x3 x4 s) := by
  unfold IsRun
  have e0 := (pay31_apply x0 x2 x3 h g).trans hS.symm
  have e1 : k0_pay32 (qbd x2) (k0_pay13 (sc0 x0) (sc1 x0) (kcode x0 x3) k0_pay41) s.1 (ix2 (row h g) 0)
      = max (s.1 (ix2 (row h g) 0)) (Finset.univ.sup fun j : Fin 1 => S (n + j)) := by
    rw [pay32_gen, e0]
    simp
  have hstep := hr.step e1
  simp only [Finset.univ_unique, Finset.sum_singleton, Fin.default_eq_zero, Fin.val_zero, Nat.add_zero] at hstep
  have e4 : vcode x1 x4 (ix2 0 (lane h d)) = code (x4 (ix3 0 0 (lane h d))) (x1 (ix1 h)) := pay38_apply x1 x4 h d
  have eq : k0_pay1 (k0_pay46 x2) laneIota rowIota = qbd x2 := rfl
  by_cases hf : foldBit x0 x1 = 1#1
  · rw [vc, if_pos hf] at hV
    rw [tokenStep, if_pos hf]
    dsimp only
    rw [pay20_gen, pay18_eq, pay19_apply, eq, pay35_gen, pay33_gen, pay34_gen, e4, e0, ← hV]
    exact hstep
  · rw [vc, if_neg hf] at hV
    rw [tokenStep, if_neg hf]
    dsimp only
    rw [pay21_gen, pay36_apply, pay35_gen, pay33_gen, pay34_gen, e4, e0, ← hV]
    exact hstep

/-- The state before the first block: no token. -/
theorem st0_run (S V : ℕ → EReal) (h : Fin 2) (g : Fin 8) (d : Fin 128) : IsRun S V 0 h g d (st0 (F := Ideal)) := by
  have e1 : (k0_pay2 (F := Ideal)) (ix2 (row h g) 0) = ⊥ := by
    pointwise [k0_pay2]
    exact ofBits_neg_inf
  have e2 : (k0_pay3 (F := Ideal)) (ix2 (row h g) 0) = 0 := by
    pointwise [k0_pay3]
  have e3 : (k0_pay4 (F := Ideal)) (ix2 (row h g) (lane h d)) = 0 := by
    pointwise [k0_pay4]
  unfold IsRun st0
  dsimp only
  rw [e1, e2, e3]
  exact Cert.Softmax.Run.zero S V

/-- The output, where the state is a run over the unscaled values: the quotient of a run over the scaled ones. -/
theorem yOut_run (x0 x1 : Vec Ideal S2 .f32) (s : Vec Ideal S16x1 .f32 × Vec Ideal S16x1 .f32 × Vec Ideal S16x256 .f32)
    (S W V : ℕ → EReal) (n : ℕ) (h : Fin 2) (g : Fin 8) (d : Fin 128) (hW : W = fun j => vc x0 x1 h (V j))
    (hr : IsRun S W n h g d s) :
    ∃ m l a, Cert.Softmax.Run S (fun j => V j * x1 (ix1 h)) n m l a ∧ yOut x0 x1 s (ix3 0 (row h g) d) = Ideal.div a l := by
  subst hW
  rw [show yOut x0 x1 s (ix3 0 (row h g) d) = _ from pay22_apply x1 (foldBit x0 x1) s.2.2 s.2.1 h g d]
  by_cases hf : foldBit x0 x1 = 1#1
  · have hx := (foldBit_fin x0 x1 hf).2 h
    rw [if_pos hf]
    have := Cert.Softmax.Run.scale hr hx.1 hx.2
    simp only [vc, if_pos hf] at this
    exact ⟨_, _, _, this, rfl⟩
  · rw [if_neg hf]
    simp only [vc, if_neg hf] at hr
    exact ⟨_, _, _, hr, rfl⟩

end Cert.KernelIdeal.Hand

end
-- ==== Proof.KernelIdealBlocks.lean ====
module

public import proofs.«01_k».proof.Proof.KernelIdealSteps
public import proofs.«01_k».proof.Proof.KernelIdealFrame
public import Idealize.ShloMosaic.Lib.Pipeline.ValueKit.Point

@[expose] public section

set_option maxRecDepth 20000

noncomputable section

namespace Cert.KernelIdeal.Hand

open Cert.KernelIdeal.Gen Idealize.ShloMosaic Idealize.ShloMosaic.TcCoe
open scoped BigOperators
open Cert.Softmax (w SM HI LO code)

variable (m : (ℓ : Loc nD τ sig) → Buf (Elt Ideal) ℓ)

/-! ## Where the blocks lie -/

theorem index0 : ∀ t : Fin cfg0.N, win0_0.index t = ![0] := (by decide +kernel : ∀ t : Fin grid0.N, win0_0.index t = ![0])
theorem index1 : ∀ t : Fin cfg0.N, win0_1.index t = ![0] := (by decide +kernel : ∀ t : Fin grid0.N, win0_1.index t = ![0])
theorem index2 : ∀ t : Fin cfg0.N, win0_2.index t = ![t.val / 8, 0, 0] :=
  (by decide +kernel : ∀ t : Fin grid0.N, win0_2.index t = ![t.val / 8, 0, 0])
theorem index3 : ∀ t : Fin cfg0.N, win0_3.index t = ![t.val / 8, 0, 0] :=
  (by decide +kernel : ∀ t : Fin grid0.N, win0_3.index t = ![t.val / 8, 0, 0])
theorem index4 : ∀ t : Fin cfg0.N, win0_4.index t = ![t.val / 8, 0, 0] :=
  (by decide +kernel : ∀ t : Fin grid0.N, win0_4.index t = ![t.val / 8, 0, 0])
theorem index5 : ∀ t : Fin cfg0.N, win0_5.index t = ![t.val / 8, 0, t.val % 8, 0] :=
  (by decide +kernel : ∀ t : Fin grid0.N, win0_5.index t = ![t.val / 8, 0, t.val % 8, 0])
theorem index6 : ∀ t : Fin cfg0.N, win0_6.index t = ![t.val / 8, 0, t.val % 8, 0] :=
  (by decide +kernel : ∀ t : Fin grid0.N, win0_6.index t = ![t.val / 8, 0, t.val % 8, 0])

theorem N_val : cfg0.N = 256 := N_0

/-! ## The input blocks from the arguments -/

/-- The key scales at a point, -/
theorem blk0_apply (c : Dev nD) (t : Fin cfg0.N) (h : Fin 2) : blk0 m c t (ix1 h) = m ((c : Thread nD τ).loc main_arg4) (ix1 h) := by
  blk_ext! [iblk, V_main_arg4, index0 t]
/-- the value scales, -/
theorem blk1_apply (c : Dev nD) (t : Fin cfg0.N) (h : Fin 2) : blk1 m c t (ix1 h) = m ((c : Thread nD τ).loc main_arg6) (ix1 h) := by
  blk_ext! [iblk, V_main_arg6, index1 t]
/-- the query rows of the point's sequence, -/
theorem blk2_apply (c : Dev nD) (t : Fin cfg0.N) (b : Fin 32) (hb : t.val / 8 = b.val) (r : Fin 16) (d : Fin 128) :
    blk2 m c t (ix3 0 r d) = m ((c : Thread nD τ).loc main_arg0) (ix3 b 0 (Cert.Softmax.qLane r d)) := by
  unfold Cert.Softmax.qLane
  blk_ext! [iblk, V, index2 t]
/-- its new key, -/
theorem blk3_apply (c : Dev nD) (t : Fin cfg0.N) (b : Fin 32) (hb : t.val / 8 = b.val) (h : Fin 2) (d : Fin 128) :
    blk3 m c t (ix3 0 0 (lane h d)) = m ((c : Thread nD τ).loc main_arg1) (ix4 b 0 h d) := by
  unfold lane
  blk_ext! [iblk, V, index3 t]
/-- its new value, -/
theorem blk4_apply (c : Dev nD) (t : Fin cfg0.N) (b : Fin 32) (hb : t.val / 8 = b.val) (h : Fin 2) (d : Fin 128) :
    blk4 m c t (ix3 0 0 (lane h d)) = m ((c : Thread nD τ).loc main_arg2) (ix4 b 0 h d) := by
  unfold lane
  blk_ext! [iblk, V, index4 t]
/-- the point's 2048 cached keys, -/
theorem blk5_apply (c : Dev nD) (t : Fin cfg0.N) (b : Fin 32) (hb : t.val / 8 = b.val) (k : ℕ) (hk : t.val % 8 = k)
    (h : Fin 2) (j : Fin 2048) (J : Fin 16384) (hJ : J.val = 2048 * k + j.val) (d : Fin 128) :
    blk5 m c t (ix4 0 h j d) = m ((c : Thread nD τ).loc main_arg3) (ix4 b J h d) := by
  blk_ext! [iblk, V, index5 t]
/-- and its 2048 cached values. -/
theorem blk6_apply (c : Dev nD) (t : Fin cfg0.N) (b : Fin 32) (hb : t.val / 8 = b.val) (k : ℕ) (hk : t.val % 8 = k)
    (h : Fin 2) (j : Fin 2048) (J : Fin 16384) (hJ : J.val = 2048 * k + j.val) (d : Fin 128) :
    blk6 m c t (ix4 0 h j d) = m ((c : Thread nD τ).loc main_arg5) (ix4 b J h d) := by
  blk_ext! [iblk, V, index6 t]

/-- The scales' blocks are the same at every point. -/
theorem blk0_const (c : Dev nD) (t t' : Fin cfg0.N) : blk0 m c t = blk0 m c t' := by
  funext i
  obtain ⟨h, rfl⟩ : ∃ h : Fin 2, i = ix1 h := ⟨i 0, funext fun a => by fin_cases a; rfl⟩
  exact (blk0_apply m c t h).trans (blk0_apply m c t' h).symm
theorem blk1_const (c : Dev nD) (t t' : Fin cfg0.N) : blk1 m c t = blk1 m c t' := by
  funext i
  obtain ⟨h, rfl⟩ : ∃ h : Fin 2, i = ix1 h := ⟨i 0, funext fun a => by fin_cases a; rfl⟩
  exact (blk1_apply m c t h).trans (blk1_apply m c t' h).symm

/-! ## The state over a sequence's blocks -/

theorem rowHead_row (h : Fin 2) (g : Fin 8) : Cert.Softmax.rowHead (row h g) = h :=
  Fin.ext (by simp only [Cert.Softmax.rowHead, row]; omega)
theorem row_surj (r : Fin 16) : ∃ h g, r = row h g :=
  ⟨⟨r.val / 8, by omega⟩, ⟨r.val % 8, by omega⟩, Fin.ext (by simp only [row]; omega)⟩
theorem laneHead_lane (h : Fin 2) (d : Fin 128) : Cert.Softmax.laneHead (lane h d) = h :=
  Fin.ext (by simp only [Cert.Softmax.laneHead, lane]; omega)
theorem laneIn_lane (h : Fin 2) (d : Fin 128) : Cert.Softmax.laneIn (lane h d) = d :=
  Fin.ext (by simp only [Cert.Softmax.laneIn, lane]; omega)
theorem lane_surj (c : Fin 256) : ∃ h d, c = lane h d :=
  ⟨⟨c.val / 128, by omega⟩, ⟨c.val % 128, by omega⟩, Fin.ext (by simp only [lane]; omega)⟩

/-- The scores of sequence `b` for row `g` of head `h`, from the arguments. -/
abbrev scores (c : Dev nD) (b : Fin 32) (h : Fin 2) (g : Fin 8) : ℕ → EReal :=
  Cert.Softmax.sTok (fun e => m ((c : Thread nD τ).loc main_arg0) (ix3 b 0 (Cert.Softmax.qLane (row h g) e)))
    (fun j e => m ((c : Thread nD τ).loc main_arg3) (ix4 b j h e))
    (fun e => code (m ((c : Thread nD τ).loc main_arg1) (ix4 b 0 h e)) (m ((c : Thread nD τ).loc main_arg4) (ix1 h)))
    (m ((c : Thread nD τ).loc main_arg4) (ix1 h))
/-- The value codes of sequence `b` at a lane of head `h`, from the arguments. -/
abbrev values (c : Dev nD) (b : Fin 32) (h : Fin 2) (d : Fin 128) : ℕ → EReal :=
  Cert.Softmax.vTok (fun j => m ((c : Thread nD τ).loc main_arg5) (ix4 b j h d))
    (code (m ((c : Thread nD τ).loc main_arg2) (ix4 b 0 h d)) (m ((c : Thread nD τ).loc main_arg6) (ix1 h)))

/-- A block's step over the arguments. -/
theorem block_run (c : Dev nD) (t : Fin cfg0.N) (b : Fin 32) (hb : t.val / 8 = b.val) (k : ℕ) (hk : t.val % 8 = k)
    (h : Fin 2) (g : Fin 8) (d : Fin 128) (s : St Ideal)
    (hr : IsRun (scores m c b h g) (fun j => vc (blk0 m c t) (blk1 m c t) h (values m c b h d j)) (2048 * k) h g d s) :
    IsRun (scores m c b h g) (fun j => vc (blk0 m c t) (blk1 m c t) h (values m c b h d j)) (2048 * (k + 1)) h g d
      (cacheStep (blk0 m c t) (blk1 m c t) (blk2 m c t) (blk5 m c t) (blk6 m c t) s) := by
  have hk8 : k < 8 := by omega
  refine cacheStep_run _ _ _ _ _ s _ _ (2048 * k) h g d (fun j => ?_) (fun j => ?_) hr
  · have hj : 2048 * k + j.val < 16384 := by have := j.isLt; omega
    unfold scores Cert.Softmax.sTok sc
    rw [dif_pos hj, blk0_apply]
    refine congrArg (· * SM) (Finset.sum_congr rfl fun e _ => ?_)
    rw [blk2_apply m c t b hb, blk5_apply m c t b hb k hk h j ⟨_, hj⟩ rfl]
  · have hj : 2048 * k + j.val < 16384 := by have := j.isLt; omega
    unfold values Cert.Softmax.vTok
    dsimp only
    rw [dif_pos hj, blk6_apply m c t b hb k hk h j ⟨_, hj⟩ rfl]

/-- After block `k` of sequence `b` the state is the run over its first 2048 (k+1) tokens. -/
theorem state_run (c : Dev nD) (b : Fin 32) (h : Fin 2) (g : Fin 8) (d : Fin 128) (t₀ : Fin cfg0.N) :
    ∀ k, (hk : k < 8) → IsRun (scores m c b h g) (fun j => vc (blk0 m c t₀) (blk1 m c t₀) h (values m c b h d j)) (2048 * (k + 1)) h g d
      (stAt m c (8 * b.val + k + 1) (by rw [N_val]; omega)) := by
  intro k
  induction k with
  | zero =>
    intro hk
    have ht : 8 * b.val < cfg0.N := by rw [N_val]; omega
    have e := stAt_succ m c ⟨8 * b.val, ht⟩
    rw [if_pos (show (8 * b.val) % 8 = 0 by omega)] at e
    rw [blk0_const m c t₀ ⟨8 * b.val, ht⟩, blk1_const m c t₀ ⟨8 * b.val, ht⟩]
    have := block_run m c ⟨8 * b.val, ht⟩ b (by show 8 * b.val / 8 = _; omega) 0 (by show 8 * b.val % 8 = _; omega) h g d st0 (st0_run _ _ h g d)
    exact (congrArg (IsRun _ _ _ h g d) e).mpr this
  | succ k ih =>
    intro hk
    have ht : 8 * b.val + (k + 1) < cfg0.N := by rw [N_val]; omega
    have e := stAt_succ m c ⟨8 * b.val + (k + 1), ht⟩
    rw [if_neg (show ¬ (8 * b.val + (k + 1)) % 8 = 0 by omega)] at e
    have ih' := ih (by omega)
    rw [blk0_const m c t₀ ⟨_, ht⟩, blk1_const m c t₀ ⟨_, ht⟩] at ih' ⊢
    have := block_run m c ⟨_, ht⟩ b (by show (8 * b.val + (k + 1)) / 8 = _; omega) (k + 1) (by show (8 * b.val + (k + 1)) % 8 = _; omega) h g d _ ih'
    exact (congrArg (IsRun _ _ _ h g d) e).mpr this

/-! ## The results at the points that write them -/

/-- The attention result's block at the last point of sequence `b`. -/
theorem outY_apply (c : Dev nD) (t : Fin cfg0.N) (b : Fin 32) (hb : t.val = 8 * b.val + 7) (r : Fin 16) (d : Fin 128) :
    outY m c t (ix3 0 r d)
      = Cert.Softmax.yVal (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b r d := by
  obtain ⟨h, g, rfl⟩ := row_surj r
  obtain ⟨t, ht⟩ := t
  dsimp only at hb
  subst hb
  have hs := state_run m c b h g d ⟨_, ht⟩ 7 (by omega)
  have hdiv : (8 * b.val + 7) / 8 = b.val := by omega
  have hn : scores m c b h g 16384 = scN (blk0 m c ⟨_, ht⟩) (blk2 m c ⟨_, ht⟩) (blk3 m c ⟨_, ht⟩) h g := by
    unfold scores Cert.Softmax.sTok scN
    rw [dif_neg (by omega), blk0_apply]
    refine congrArg (· * SM) (Finset.sum_congr rfl fun e _ => ?_)
    rw [blk2_apply m c ⟨_, ht⟩ b hdiv, blk3_apply m c ⟨_, ht⟩ b hdiv]
  have hv : (fun j => vc (blk0 m c ⟨_, ht⟩) (blk1 m c ⟨_, ht⟩) h (values m c b h d j)) 16384
      = vc (blk0 m c ⟨_, ht⟩) (blk1 m c ⟨_, ht⟩) h (code (blk4 m c ⟨_, ht⟩ (ix3 0 0 (lane h d))) (blk1 m c ⟨_, ht⟩ (ix1 h))) := by
    unfold values Cert.Softmax.vTok
    dsimp only
    rw [dif_neg (by omega), blk4_apply m c ⟨_, ht⟩ b hdiv, blk1_apply]
  have ht' := tokenStep_run _ _ _ _ _ _ _ _ 16384 h g d hn hv hs
  obtain ⟨l₁, l₂, l₃, hrun, he⟩ := yOut_run _ _ _ _ _ _ _ h g d rfl ht'
  rw [blk1_apply] at hrun
  refine he.trans ((Cert.Softmax.attn_of_run hrun).trans ?_)
  rw [Cert.Softmax.yVal, rowHead_row]

/-- The key codes' block, -/
theorem outK_apply (c : Dev nD) (t : Fin cfg0.N) (b : Fin 32) (hb : t.val = 8 * b.val + 7) (e : Fin 256) :
    outK m c t (ix3 0 0 e) = Cert.Softmax.cVal (m ((c : Thread nD τ).loc main_arg1)) (m ((c : Thread nD τ).loc main_arg4)) b e := by
  obtain ⟨h, d, rfl⟩ := lane_surj e
  rw [outK, pay39_apply, blk3_apply m c t b (by omega), blk0_apply, Cert.Softmax.cVal, laneHead_lane, laneIn_lane]
/-- and the value codes'. -/
theorem outV_apply (c : Dev nD) (t : Fin cfg0.N) (b : Fin 32) (hb : t.val = 8 * b.val + 7) (e : Fin 256) :
    outV m c t (ix3 0 0 e) = Cert.Softmax.cVal (m ((c : Thread nD τ).loc main_arg2)) (m ((c : Thread nD τ).loc main_arg6)) b e := by
  obtain ⟨h, d, rfl⟩ := lane_surj e
  rw [outV, pay40_apply, blk4_apply m c t b (by omega), blk1_apply, Cert.Softmax.cVal, laneHead_lane, laneIn_lane]

end Cert.KernelIdeal.Hand

end
-- ==== Proof.KernelIdealValue.lean ====
module

public import proofs.«01_k».proof.Proof.KernelIdealBlocks

@[expose] public section

set_option maxRecDepth 20000

noncomputable section

namespace Cert.KernelIdeal.Hand

open Cert.KernelIdeal.Gen Idealize.ShloMosaic Idealize.ShloMosaic.TcCoe Idealize.SL.Sem

variable (m : (ℓ : Loc nD τ sig) → Buf (Elt Ideal) ℓ) (ρ : Dev nD → PrngReg)

/-- The points that write a result are the last ones of the sequences. -/
theorem flush7 : ∀ t : Fin cfg0.N, (cfg0.win 7).flush t = true → t.val % 8 = 7 :=
  (by decide +kernel : ∀ t : Fin grid0.N, win0_7.flush t = true → t.val % 8 = 7)
theorem flush8 : ∀ t : Fin cfg0.N, (cfg0.win 8).flush t = true → t.val % 8 = 7 :=
  (by decide +kernel : ∀ t : Fin grid0.N, win0_8.flush t = true → t.val % 8 = 7)
theorem flush9 : ∀ t : Fin cfg0.N, (cfg0.win 9).flush t = true → t.val % 8 = 7 :=
  (by decide +kernel : ∀ t : Fin grid0.N, win0_9.flush t = true → t.val % 8 = 7)
theorem index7 : ∀ t : Fin cfg0.N, win0_7.index t = ![t.val / 8, 0, 0] :=
  (by decide +kernel : ∀ t : Fin grid0.N, win0_7.index t = ![t.val / 8, 0, 0])
theorem index8 : ∀ t : Fin cfg0.N, win0_8.index t = ![t.val / 8, 0, 0] :=
  (by decide +kernel : ∀ t : Fin grid0.N, win0_8.index t = ![t.val / 8, 0, 0])
theorem index9 : ∀ t : Fin cfg0.N, win0_9.index t = ![t.val / 8, 0, 0] :=
  (by decide +kernel : ∀ t : Fin grid0.N, win0_9.index t = ![t.val / 8, 0, 0])

/-- The attention result, whole. -/
def resY (c : Dev nD) : FVec Ideal S32x16x128 .bf16 := fun i =>
  Cert.Softmax.yVal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)
/-- The key codes, whole. -/
def resK (c : Dev nD) : FVec Ideal S32x1x256 .fp8e4m3 := fun i =>
  Cert.Softmax.cVal (m ((c : Thread nD τ).loc main_arg1)) (m ((c : Thread nD τ).loc main_arg4)) (i 0) (i 2)
/-- The value codes, whole. -/
def resV (c : Dev nD) : FVec Ideal S32x1x256 .fp8e4m3 := fun i =>
  Cert.Softmax.cVal (m ((c : Thread nD τ).loc main_arg2)) (m ((c : Thread nD τ).loc main_arg6)) (i 0) (i 2)

/-- Which sequence a writing point belongs to. -/
theorem seq_of (t : Fin cfg0.N) (h : t.val % 8 = 7) : ∃ b : Fin 32, t.val = 8 * b.val + 7 :=
  ⟨⟨t.val / 8, by have := lt_of_lt_of_eq t.isLt N_val; omega⟩, by dsimp only; omega⟩

/-- The arrays after the run. -/
theorem final7 (c : Dev nD) : (dats m 0 c).arrAt 7 cfg0.N = resY m c := by
  refine (dats m 0 c).arrAt_eq_of_covers 7 _ (by decide +kernel) fun t hf y => ?_
  blk_simp
  rw [after7]
  obtain ⟨b, hb⟩ := seq_of t (flush7 t hf)
  have hy : y = ix3 0 (y 1) (y 2) := by
    funext a; fin_cases a
    · exact Fin.ext (by have := (y 0).isLt; show (y 0).val = 0; change (y 0).val < 1 at this; omega)
    · rfl
    · rfl
  rw [hy]
  have h0 : (win0_7.blk t).view.emb (ix3 0 (y 1) (y 2)) = ix3 b (y 1) (y 2) := by
    blk_ext [index7 t]
  exact (outY_apply m c t b hb (y 1) (y 2)).trans (congrArg (resY m c) h0).symm
theorem final8 (c : Dev nD) : (dats m 0 c).arrAt 8 cfg0.N = resK m c := by
  refine (dats m 0 c).arrAt_eq_of_covers 8 _ (by decide +kernel) fun t hf y => ?_
  blk_simp
  rw [after8]
  obtain ⟨b, hb⟩ := seq_of t (flush8 t hf)
  have hy : y = ix3 0 0 (y 2) := by
    funext a; fin_cases a
    · exact Fin.ext (by have := (y 0).isLt; show (y 0).val = 0; change (y 0).val < 1 at this; omega)
    · exact Fin.ext (by have := (y 1).isLt; show (y 1).val = 0; change (y 1).val < 1 at this; omega)
    · rfl
  rw [hy]
  have h0 : (win0_8.blk t).view.emb (ix3 0 0 (y 2)) = ix3 b 0 (y 2) := by
    blk_ext [index8 t]
  exact (outK_apply m c t b hb  (y 2)).trans (congrArg (resK m c) h0).symm
theorem final9 (c : Dev nD) : (dats m 0 c).arrAt 9 cfg0.N = resV m c := by
  refine (dats m 0 c).arrAt_eq_of_covers 9 _ (by decide +kernel) fun t hf y => ?_
  blk_simp
  rw [after9]
  obtain ⟨b, hb⟩ := seq_of t (flush9 t hf)
  have hy : y = ix3 0 0 (y 2) := by
    funext a; fin_cases a
    · exact Fin.ext (by have := (y 0).isLt; show (y 0).val = 0; change (y 0).val < 1 at this; omega)
    · exact Fin.ext (by have := (y 1).isLt; show (y 1).val = 0; change (y 1).val < 1 at this; omega)
    · rfl
  rw [hy]
  have h0 : (win0_9.blk t).view.emb (ix3 0 0 (y 2)) = ix3 b 0 (y 2) := by
    blk_ext [index9 t]
  exact (outV_apply m c t b hb  (y 2)).trans (congrArg (resV m c) h0).symm

/-- The run: the results at their values, the arguments unchanged. -/
theorem run_values : θ_run defs (onTc (τ := τ) (main (F := Ideal))) ⟨m, fun _ => 0, ρ⟩ fun r => ∀ c : Dev nD,
      r.2.mem ((c.tc : Thread nD τ).loc main_v5_0) = resY m c
      ∧ r.2.mem ((c.tc : Thread nD τ).loc main_v5_1) = resK m c
      ∧ r.2.mem ((c.tc : Thread nD τ).loc main_v5_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 7).trans (final7 m c), ((h.1 c).1 8).trans (final8 m c),
      ((h.1 c).1 9).trans (final9 m c), h.2 c⟩)
    (θ_run_and (run_main m ρ) (unchanged m ρ))

end Cert.KernelIdeal.Hand

end
-- ==== Proof.ReferenceIdealReads.lean ====
module

public import proofs.«01_k».proof.Proof.Spec
public import proofs.«01_k».proof.Proof.Gen.ReferenceIdeal.Value
public import Idealize.ShloMosaic.Lib.Pointwise

@[expose] public section

set_option maxRecDepth 20000

noncomputable section

namespace Cert.ReferenceIdeal.Hand

open Cert.ReferenceIdeal Cert.ReferenceIdeal.Gen Idealize.ShloMosaic
open scoped BigOperators
open Cert.Softmax (w SM HI LO code attn sTok vTok)

theorem ofBits_neg_inf : Ideal.ofBits .f32 0xFF800000#32 = ⊥ := by
  simp [Ideal.ofBits, Ideal.ieee]

/-- The attention, with the new token written apart from the cached ones. -/
theorem attn_split (q : Fin 128 → EReal) (K : Fin 16384 → Fin 128 → EReal) (kc : Fin 128 → EReal) (ks : EReal)
    (V : Fin 16384 → EReal) (vn vs : EReal) (s : Fin 16384 → EReal) (n M : EReal)
    (hs : ∀ j, s j = (∑ d, q d * (K j d * ks)) * SM) (hn : n = (∑ d, q d * (kc d * ks)) * SM)
    (hM : M = max (Finset.univ.sup s) n) :
    Ideal.div (∑ j, w (s j) M * (V j * vs) + w n M * (vn * vs)) (∑ j, w (s j) M + w n M) = attn q K kc ks V vn vs := by
  have e : ∀ j : Fin 16384, sTok q K kc ks j.val = s j := fun j => by rw [sTok, dif_pos j.isLt, hs]
  have ev : ∀ j : Fin 16384, vTok V vn j.val = V j := fun j => by rw [vTok, dif_pos j.isLt]
  have e' : sTok q K kc ks 16384 = n := by rw [sTok, dif_neg (by omega), hn]
  have ev' : vTok V vn 16384 = vn := by rw [vTok, dif_neg (by omega)]
  have h0 : (Finset.range 16384).sup (sTok q K kc ks) = Finset.univ.sup s := by
    have := Cert.Softmax.sup_range_add (sTok q K kc ks) 0 16384
    rw [Nat.zero_add, Finset.range_zero, Finset.sup_empty, max_bot_left] at this
    rw [this]
    exact Finset.sup_congr rfl fun j _ => by rw [Nat.zero_add, e]
  have h1 : (Finset.range 16385).sup (sTok q K kc ks) = M := by
    rw [Finset.range_add_one (n := 16384), Finset.sup_insert, e', h0, hM]
    exact max_comm _ _
  rw [attn, h1, Finset.sum_range_succ (n := 16384), Finset.sum_range_succ (n := 16384), Finset.sum_range, Finset.sum_range, e', ev']
  simp only [e, ev]

/-- The codes of one head. -/
theorem pay2_apply (s : Elt Ideal .f32) (x : Vec Ideal S32x1x128 .bf16) (b : Fin 32) (d : Fin 128) :
    k0_pay2 s x (ix3 b 0 d) = code (x (ix3 b 0 d)) s := by
  pointwise [k0_pay2]
  rfl
theorem pay3_apply (s : Elt Ideal .f32) (x : Vec Ideal S32x1x128 .bf16) (b : Fin 32) (d : Fin 128) :
    k0_pay3 s x (ix3 b 0 d) = code (x (ix3 b 0 d)) s := by
  pointwise [k0_pay3]
  rfl
theorem pay7_apply (s : Elt Ideal .f32) (x : Vec Ideal S32x1x128 .bf16) (b : Fin 32) (d : Fin 128) :
    k0_pay7 s x (ix3 b 0 d) = code (x (ix3 b 0 d)) s := by
  pointwise [k0_pay7]
  rfl
theorem pay8_apply (s : Elt Ideal .f32) (x : Vec Ideal S32x1x128 .bf16) (b : Fin 32) (d : Fin 128) :
    k0_pay8 s x (ix3 b 0 d) = code (x (ix3 b 0 d)) s := by
  pointwise [k0_pay8]
  rfl

/-- The query rows of one head, -/
theorem pay4_apply (x : Vec Ideal S32x1x8x128 .bf16) (b : Fin 32) (g : Fin 8) (d : Fin 128) :
    k0_pay4 x (ix3 b g d) = x (ix4 b 0 g d) := by
  pointwise [k0_pay4]
theorem pay9_apply (x : Vec Ideal S32x1x8x128 .bf16) (b : Fin 32) (g : Fin 8) (d : Fin 128) :
    k0_pay9 x (ix3 b g d) = x (ix4 b 0 g d) := by
  pointwise [k0_pay9]
/-- its dequantised keys, -/
theorem pay5_apply (s : Elt Ideal .f32) (x : Vec Ideal S32x16384x1x128 .fp8e4m3) (b : Fin 32) (j : Fin 16384) (d : Fin 128) :
    k0_pay5 s x (ix3 b j d) = x (ix4 b j 0 d) * s := by
  pointwise [k0_pay5]
/-- their products with the query, -/
theorem pay10_apply (s : Elt Ideal .f32) (x : Vec Ideal S32x1x8x128 .bf16) (k : Vec Ideal S32x16384x1x128 .fp8e4m3)
    (b : Fin 32) (g : Fin 8) (j : Fin 16384) :
    k0_pay10 s x k (ix3 b g j) = ∑ d, x (ix4 b 0 g d) * (k (ix4 b j 0 d) * s) := by
  pointwise [k0_pay10, k0_pay9]
/-- and the softmax's scale. -/
theorem pay11_apply (b : Fin 32) (g : Fin 8) (j : Fin 16384) : k0_pay11 (F := Ideal) (ix3 b g j) = SM := by
  pointwise [k0_pay11]

/-! ## The pieces of one head's attention -/

/-- The level over the cached scores and the new one, -/
def lev (s : FVec Ideal S32x8x16384 .f32) (n : FVec Ideal S32x8x1 .f32) : FVec Ideal S32x8x1 .f32 :=
  maximumf (shapeCast S32x8x1 (multiReduction .maximumf [2] S32x8 s 0xFF800000#32 reduces_S32x8x16384_S32x8 (.inl rfl) rfl)
    shapeCasts_S32x8_S32x8x1) n
/-- the weights of the cached scores, -/
def wts (s : FVec Ideal S32x8x16384 .f32) (l : FVec Ideal S32x8x1 .f32) : FVec Ideal S32x8x16384 .f32 :=
  exp (subf s (broadcastTo S32x8x16384 l broadcasts_S32x8x1_S32x8x16384))
/-- their sum, -/
def wsum (p : FVec Ideal S32x8x16384 .f32) : FVec Ideal S32x8x1 .f32 :=
  shapeCast S32x8x1 (multiReduction .add [2] S32x8 p 0x00000000#32 reduces_S32x8x16384_S32x8 (.inl rfl) rfl) shapeCasts_S32x8_S32x8x1
/-- their sum against the dequantised values. -/
def wval (p : FVec Ideal S32x8x16384 .f32) (v : FVec Ideal S32x16384x128 .f32) : FVec Ideal S32x8x128 .f32 :=
  matmul dot_S32x8x16384_S32x16384x128_S32x8x128_2_1_1_2_0_0 none p v (constant S32x8x128 .f32 0x00000000#32)

/-- The greatest element of a fold of `max` from `-∞`. -/
theorem fold_bot {n : ℕ} (f : Fin n → EReal) {b : EReal} (hb : b = ⊥) : Finset.univ.fold max b f = Finset.univ.sup f := by
  subst hb; rfl
/-- A maximum over the last of three axes, of any extent. -/
theorem max_gen {p q n : ℕ} (s : FVec Ideal ⟨3, ![p, q, n]⟩ .f32) (h : Shape.Reduces ⟨3, ![p, q, n]⟩ [2] ⟨2, ![p, q]⟩)
    (hφ : FKind.Formats .f32) (hacc : (0xFF800000#32 : BitVec 32) = FKind.maximumf.neutral .f32 hφ) (b : Fin p) (g : Fin q) :
    multiReduction .maximumf [2] ⟨2, ![p, q]⟩ s 0xFF800000#32 h hφ hacc (ix2 b g) = Finset.univ.sup fun j : Fin n => s (ix3 b g j) := by
  refine (Ideal.multiReduction_maximumf_single s _ h hφ hacc (ix2 b g)).trans ((fold_bot _ ofBits_neg_inf).trans ?_)
  refine Finset.sup_congr rfl fun j _ => congrArg s (funext fun a => Fin.ext ?_)
  match a with
  | ⟨0, _⟩ => rfl
  | ⟨1, _⟩ => rfl
  | ⟨2, _⟩ => rfl
/-- The greatest cached score of a row, -/
theorem smax_apply (s : FVec Ideal S32x8x16384 .f32) (b : Fin 32) (g : Fin 8) :
    multiReduction .maximumf [2] S32x8 s 0xFF800000#32 reduces_S32x8x16384_S32x8 (.inl rfl) rfl (ix2 b g)
      = Finset.univ.sup fun j : Fin 16384 => s (ix3 b g j) :=
  max_gen (p := 32) (q := 8) (n := 16384) s reduces_S32x8x16384_S32x8 (.inl rfl) rfl b g
/-- against the new one. -/
theorem nmax_apply (r : FVec Ideal S32x8 .f32) (n : FVec Ideal S32x8x1 .f32) (b : Fin 32) (g : Fin 8) :
    maximumf (shapeCast S32x8x1 r shapeCasts_S32x8_S32x8x1) n (ix3 b g 0) = max (r (ix2 b g)) (n (ix3 b g 0)) := by
  pointwise
theorem lev_apply (s : FVec Ideal S32x8x16384 .f32) (n : FVec Ideal S32x8x1 .f32) (b : Fin 32) (g : Fin 8) :
    lev s n (ix3 b g 0) = max (Finset.univ.sup fun j => s (ix3 b g j)) (n (ix3 b g 0)) := by
  unfold lev
  rw [nmax_apply, smax_apply]
theorem wts_apply (s : FVec Ideal S32x8x16384 .f32) (l : FVec Ideal S32x8x1 .f32) (b : Fin 32) (g : Fin 8) (j : Fin 16384) :
    wts s l (ix3 b g j) = w (s (ix3 b g j)) (l (ix3 b g 0)) := by
  pointwise [wts]
  rfl
theorem wsum_apply (p : FVec Ideal S32x8x16384 .f32) (b : Fin 32) (g : Fin 8) :
    wsum p (ix3 b g 0) = ∑ j, p (ix3 b g j) := by
  pointwise [wsum]
theorem wval_apply (p : FVec Ideal S32x8x16384 .f32) (v : FVec Ideal S32x16384x128 .f32) (b : Fin 32) (g : Fin 8) (d : Fin 128) :
    wval p v (ix3 b g d) = ∑ j, p (ix3 b g j) * v (ix3 b j d) := by
  pointwise [wval]

/-- One head's scores against the cache from the products, -/
def scs (p sm : FVec Ideal S32x8x16384 .f32) : FVec Ideal S32x8x16384 .f32 := mulf p sm
/-- its score against the new token. -/
def scn (q : FVec Ideal S32x8x128 .bf16) (kc : FVec Ideal S32x1x128 .fp8e4m3) (ks : Elt Ideal .f32) : FVec Ideal S32x8x1 .f32 :=
  mulf (matmul dot_S32x8x128_S32x1x128_S32x8x1_2_2_1_1_0_0 none q
    (mulf (extf .bf16 kc bitsLt_fp8e4m3_bf16) (broadcast S32x1x128 (Scalar.truncf .bf16 bitsLt_bf16_f32 ks : Ideal .bf16)))
    (constant S32x8x1 .f32 0x00000000#32)) (broadcast S32x8x1 (Scalar.ofBits .f32 0x3DB504F3#32 : Ideal .f32))
theorem scn_apply (q : FVec Ideal S32x8x128 .bf16) (kc : FVec Ideal S32x1x128 .fp8e4m3) (ks : Elt Ideal .f32) (b : Fin 32) (g : Fin 8) :
    scn q kc ks (ix3 b g 0) = (∑ d, q (ix3 b g d) * (kc (ix3 b 0 d) * ks)) * SM := by
  pointwise [scn]
/-- The dequantised values of one head. -/
def vals (V : FVec Ideal S32x16384x1x128 .fp8e4m3) (vs : Elt Ideal .f32) : FVec Ideal S32x16384x128 .f32 :=
  extf .f32 (mulf (extf .bf16 (shapeCast S32x16384x128 V shapeCasts_S32x16384x1x128_S32x16384x128) bitsLt_fp8e4m3_bf16)
    (broadcast S32x16384x128 (Scalar.truncf .bf16 bitsLt_bf16_f32 vs : Ideal .bf16))) bitsLt_bf16_f32
theorem vals_apply (V : FVec Ideal S32x16384x1x128 .fp8e4m3) (vs : Elt Ideal .f32) (b : Fin 32) (j : Fin 16384) (d : Fin 128) :
    vals V vs (ix3 b j d) = V (ix4 b j 0 d) * vs := by
  pointwise [vals]
/-- The new token's part of the numerator. -/
def nval (p : FVec Ideal S32x8x1 .f32) (vc : FVec Ideal S32x1x128 .fp8e4m3) (vs : Elt Ideal .f32) : FVec Ideal S32x8x128 .f32 :=
  matmul dot_S32x8x1_S32x1x128_S32x8x128_2_1_1_2_0_0 none p
    (extf .f32 (mulf (extf .bf16 vc bitsLt_fp8e4m3_bf16) (broadcast S32x1x128 (Scalar.truncf .bf16 bitsLt_bf16_f32 vs : Ideal .bf16))) bitsLt_bf16_f32)
    (constant S32x8x128 .f32 0x00000000#32)
theorem nval_apply (p : FVec Ideal S32x8x1 .f32) (vc : FVec Ideal S32x1x128 .fp8e4m3) (vs : Elt Ideal .f32) (b : Fin 32) (g : Fin 8)
    (d : Fin 128) : nval p vc vs (ix3 b g d) = p (ix3 b g 0) * (vc (ix3 b 0 d) * vs) := by
  pointwise [nval]
  exact Fin.sum_univ_one _
/-- One head's attention from its scores. -/
def att (s : FVec Ideal S32x8x16384 .f32) (n : FVec Ideal S32x8x1 .f32) (V : FVec Ideal S32x16384x1x128 .fp8e4m3)
    (vc : FVec Ideal S32x1x128 .fp8e4m3) (vs : Elt Ideal .f32) : FVec Ideal S32x8x128 .bf16 :=
  truncf .bf16 (divf (addf (wval (wts s (lev s n)) (vals V vs)) (nval (exp (subf n (lev s n))) vc vs))
    (broadcastTo S32x8x128 (addf (wsum (wts s (lev s n))) (exp (subf n (lev s n)))) broadcasts_S32x8x1_S32x8x128)) bitsLt_bf16_f32
theorem pay6_eq (ks vs : Elt Ideal .f32) (kc vc : FVec Ideal S32x1x128 .fp8e4m3) (q : FVec Ideal S32x8x128 .bf16)
    (kd : FVec Ideal S32x16384x128 .bf16) (V : FVec Ideal S32x16384x1x128 .fp8e4m3) :
    k0_pay6 ks vs kc vc q kd V
      = att (scs (matmul dot_S32x8x128_S32x16384x128_S32x8x16384_2_2_1_1_0_0 none q kd (constant S32x8x16384 .f32 0x00000000#32))
          (broadcast S32x8x16384 (Scalar.ofBits .f32 0x3DB504F3#32 : Ideal .f32))) (scn q kc ks) V vc vs := by
  unfold k0_pay6 att lev wts wsum wval vals nval scs scn
  dsimp only
theorem pay1_eq (ks vs : Elt Ideal .f32) (kc vc : FVec Ideal S32x1x128 .fp8e4m3) (q : FVec Ideal S32x8x128 .bf16)
    (p sm : FVec Ideal S32x8x16384 .f32) (V : FVec Ideal S32x16384x1x128 .fp8e4m3) :
    k0_pay1 ks vs kc vc q p sm V = att (scs p sm) (scn q kc ks) V vc vs := by
  unfold k0_pay1 att lev wts wsum wval vals nval scs scn
  dsimp only
/-- One head's products with its keys. -/
theorem dots_apply (q : FVec Ideal S32x8x128 .bf16) (kd : FVec Ideal S32x16384x128 .bf16) (b : Fin 32) (g : Fin 8) (j : Fin 16384) :
    matmul dot_S32x8x128_S32x16384x128_S32x8x16384_2_2_1_1_0_0 none q kd (constant S32x8x16384 .f32 0x00000000#32) (ix3 b g j)
      = ∑ d, q (ix3 b g d) * kd (ix3 b j d) := by
  pointwise
/-- The final quotient at a lane. -/
theorem quot_apply (x y : FVec Ideal S32x8x128 .f32) (l e : FVec Ideal S32x8x1 .f32) (b : Fin 32) (g : Fin 8) (d : Fin 128) :
    (truncf .bf16 (divf (addf x y) (broadcastTo S32x8x128 (addf l e) broadcasts_S32x8x1_S32x8x128)) bitsLt_bf16_f32 : FVec Ideal S32x8x128 .bf16)
      (ix3 b g d) = Ideal.div (x (ix3 b g d) + y (ix3 b g d)) (l (ix3 b g 0) + e (ix3 b g 0)) := by
  pointwise
/-- The new token's weight. -/
theorem wn_apply (n l : FVec Ideal S32x8x1 .f32) (b : Fin 32) (g : Fin 8) :
    (exp (subf n l) : FVec Ideal S32x8x1 .f32) (ix3 b g 0) = w (n (ix3 b g 0)) (l (ix3 b g 0)) := by
  pointwise
  rfl
theorem att_apply (s : FVec Ideal S32x8x16384 .f32) (n : FVec Ideal S32x8x1 .f32) (V : FVec Ideal S32x16384x1x128 .fp8e4m3)
    (vc : FVec Ideal S32x1x128 .fp8e4m3) (vs : Elt Ideal .f32) (b : Fin 32) (g : Fin 8) (d : Fin 128)
    (q : Fin 128 → EReal) (K : Fin 16384 → Fin 128 → EReal) (kc : Fin 128 → EReal) (ks : EReal)
    (hs : ∀ j, s (ix3 b g j) = (∑ e, q e * (K j e * ks)) * SM) (hn : n (ix3 b g 0) = (∑ e, q e * (kc e * ks)) * SM) :
    att s n V vc vs (ix3 b g d) = attn q K kc ks (fun j => V (ix4 b j 0 d)) (vc (ix3 b 0 d)) vs := by
  rw [att, quot_apply, wval_apply, nval_apply, wsum_apply, wn_apply]
  simp only [wts_apply, vals_apply]
  exact attn_split q K kc ks (fun j => V (ix4 b j 0 d)) (vc (ix3 b 0 d)) vs (fun j => s (ix3 b g j)) (n (ix3 b g 0)) _ hs hn
    (lev_apply s n b g)

/-- The attention of head 0, -/
theorem y0_apply (ks vs : Elt Ideal .f32) (kc vc : FVec Ideal S32x1x128 .fp8e4m3) (x : Vec Ideal S32x1x8x128 .bf16)
    (K V : Vec Ideal S32x16384x1x128 .fp8e4m3) (b : Fin 32) (g : Fin 8) (d : Fin 128) :
    k0_pay6 ks vs kc vc (k0_pay4 x) (k0_pay5 ks K) V (ix3 b g d)
      = attn (fun e => x (ix4 b 0 g e)) (fun j e => K (ix4 b j 0 e)) (fun e => kc (ix3 b 0 e)) ks
          (fun j => V (ix4 b j 0 d)) (vc (ix3 b 0 d)) vs := by
  rw [pay6_eq]
  refine att_apply _ _ V vc vs b g d _ _ _ _ (fun j => ?_) ?_
  · rw [scs, mulf_apply, dots_apply]
    simp only [pay4_apply, pay5_apply]
    rfl
  · rw [scn_apply]
    simp only [pay4_apply]
/-- and of head 1. -/
theorem y1_apply (ks vs : Elt Ideal .f32) (kc vc : FVec Ideal S32x1x128 .fp8e4m3) (x : Vec Ideal S32x1x8x128 .bf16)
    (K V : Vec Ideal S32x16384x1x128 .fp8e4m3) (b : Fin 32) (g : Fin 8) (d : Fin 128) :
    k0_pay1 ks vs kc vc (k0_pay9 x) (k0_pay10 ks x K) k0_pay11 V (ix3 b g d)
      = attn (fun e => x (ix4 b 0 g e)) (fun j e => K (ix4 b j 0 e)) (fun e => kc (ix3 b 0 e)) ks
          (fun j => V (ix4 b j 0 d)) (vc (ix3 b 0 d)) vs := by
  rw [pay1_eq]
  refine att_apply _ _ V vc vs b g d _ _ _ _ (fun j => ?_) ?_
  · rw [scs, mulf_apply, pay10_apply, pay11_apply]
    rfl
  · rw [scn_apply]
    simp only [pay9_apply]

end Cert.ReferenceIdeal.Hand

end
-- ==== Proof.ReferenceIdealValue.lean ====
module

public import proofs.«01_k».proof.Proof.ReferenceIdealReads
public import Idealize.ShloMosaic.Lib.Pipeline.ValueKit.Point
public import Idealize.ShloMosaic.Lib.Pipeline.ValueKit.Tiles

@[expose] public section

set_option maxRecDepth 20000

noncomputable section

namespace Cert.ReferenceIdeal.Hand

open Cert.ReferenceIdeal Cert.ReferenceIdeal.Gen Idealize.ShloMosaic Idealize.ShloMosaic.TcCoe Idealize.SL.Sem
open Cert.ReferenceIdeal.Value
open Cert.Softmax (w SM HI LO code attn yVal cVal rowHead laneHead laneIn qLane)

variable (m : (ℓ : Loc nD τ sig) → Buf (Elt Ideal) ℓ) (ρ : Dev nD → PrngReg)

/-! ## The operands' blocks: the arguments, whole -/

theorem index0 : ∀ t : Fin cfg0.N, win0_0.index t = ![0] :=
  (by decide +kernel : ∀ t : Fin grid0.N, win0_0.index t = ![0])
theorem index1 : ∀ t : Fin cfg0.N, win0_1.index t = ![0] :=
  (by decide +kernel : ∀ t : Fin grid0.N, win0_1.index t = ![0])
theorem index2 : ∀ t : Fin cfg0.N, win0_2.index t = ![0, 0, 0, 0] :=
  (by decide +kernel : ∀ t : Fin grid0.N, win0_2.index t = ![0, 0, 0, 0])
theorem index3 : ∀ t : Fin cfg0.N, win0_3.index t = ![0, 0, 0] :=
  (by decide +kernel : ∀ t : Fin grid0.N, win0_3.index t = ![0, 0, 0])
theorem index4 : ∀ t : Fin cfg0.N, win0_4.index t = ![0, 0, 0] :=
  (by decide +kernel : ∀ t : Fin grid0.N, win0_4.index t = ![0, 0, 0])
theorem index5 : ∀ t : Fin cfg0.N, win0_5.index t = ![0, 0, 0, 0] :=
  (by decide +kernel : ∀ t : Fin grid0.N, win0_5.index t = ![0, 0, 0, 0])
theorem index6 : ∀ t : Fin cfg0.N, win0_6.index t = ![0, 0, 0, 0] :=
  (by decide +kernel : ∀ t : Fin grid0.N, win0_6.index t = ![0, 0, 0, 0])
theorem index7 : ∀ t : Fin cfg0.N, win0_7.index t = ![0, 0, 0] :=
  (by decide +kernel : ∀ t : Fin grid0.N, win0_7.index t = ![0, 0, 0])
theorem index8 : ∀ t : Fin cfg0.N, win0_8.index t = ![0, 0, 0] :=
  (by decide +kernel : ∀ t : Fin grid0.N, win0_8.index t = ![0, 0, 0])
theorem index9 : ∀ t : Fin cfg0.N, win0_9.index t = ![0, 0, 0] :=
  (by decide +kernel : ∀ t : Fin grid0.N, win0_9.index t = ![0, 0, 0])

/-- Lane `d` of head `h`, -/
def lane (h : Fin 2) (d : Fin 128) : Fin 256 := ⟨128 * h.val + d.val, by omega⟩
/-- and row `g` of head `h`. -/
def row (h : Fin 2) (g : Fin 8) : Fin 16 := ⟨8 * h.val + g.val, by omega⟩

theorem blk0_apply (c : Dev nD) (t : Fin cfg0.N) (h : Fin 2) :
    iblk m c 0 t (ix1 h) = m ((c : Thread nD τ).loc main_arg4) (ix1 h) := by
  blk_ext! [iblk, V_main_arg4, index0 t]
theorem blk1_apply (c : Dev nD) (t : Fin cfg0.N) (h : Fin 2) :
    iblk m c 1 t (ix1 h) = m ((c : Thread nD τ).loc main_arg6) (ix1 h) := by
  blk_ext! [iblk, V_main_arg6, index1 t]
theorem blk2_apply (c : Dev nD) (t : Fin cfg0.N) (b : Fin 32) (h : Fin 2) (g : Fin 8) (d : Fin 128) :
    iblk m c 2 t (ix4 b h g d) = m ((c : Thread nD τ).loc main_arg0) (ix3 b 0 (qLane ⟨8 * h.val + g.val, by omega⟩ d)) := by
  unfold qLane
  blk_ext! [iblk, V, index2 t]
theorem blk3_apply (c : Dev nD) (t : Fin cfg0.N) (b : Fin 32) (h : Fin 2) (d : Fin 128) :
    iblk m c 3 t (ix3 b 0 ⟨128 * h.val + d.val, by omega⟩) = m ((c : Thread nD τ).loc main_arg1) (ix4 b 0 h d) := by
  blk_ext! [iblk, V, index3 t]
theorem blk4_apply (c : Dev nD) (t : Fin cfg0.N) (b : Fin 32) (h : Fin 2) (d : Fin 128) :
    iblk m c 4 t (ix3 b 0 ⟨128 * h.val + d.val, by omega⟩) = m ((c : Thread nD τ).loc main_arg2) (ix4 b 0 h d) := by
  blk_ext! [iblk, V, index4 t]
theorem blk5_apply (c : Dev nD) (t : Fin cfg0.N) (b : Fin 32) (j : Fin 16384) (h : Fin 2) (d : Fin 128) :
    iblk m c 5 t (ix4 b j h d) = m ((c : Thread nD τ).loc main_arg3) (ix4 b j h d) := by
  blk_ext! [iblk, V_main_arg3, index5 t]
theorem blk6_apply (c : Dev nD) (t : Fin cfg0.N) (b : Fin 32) (j : Fin 16384) (h : Fin 2) (d : Fin 128) :
    iblk m c 6 t (ix4 b j h d) = m ((c : Thread nD τ).loc main_arg5) (ix4 b j h d) := by
  blk_ext! [iblk, V_main_arg5, index6 t]

/-! ## A staged buffer reads as its block -/

theorem rd0 (t : Fin cfg0.N) (h : (ms0_0 t).IsWhole) (X : Vec Ideal S2 .f32) :
    View.read (Elt Ideal) (View.whole cc0_stg0_0) (h.unread X) = X := Memref.IsWhole.read_unread h X
theorem rd1 (t : Fin cfg0.N) (h : (ms0_1 t).IsWhole) (X : Vec Ideal S2 .f32) :
    View.read (Elt Ideal) (View.whole cc0_stg1_0) (h.unread X) = X := Memref.IsWhole.read_unread h X
theorem rd2 (t : Fin cfg0.N) (h : (ms0_2 t).IsWhole) (X : Vec Ideal S32x2x8x128 .bf16) :
    View.read (Elt Ideal) (View.whole cc0_stg2_0) (h.unread X) = X := Memref.IsWhole.read_unread h X
theorem rd3 (t : Fin cfg0.N) (h : (ms0_3 t).IsWhole) (X : Vec Ideal S32x1x256 .bf16) :
    View.read (Elt Ideal) (View.whole cc0_stg3_0) (h.unread X) = X := Memref.IsWhole.read_unread h X
theorem rd4 (t : Fin cfg0.N) (h : (ms0_4 t).IsWhole) (X : Vec Ideal S32x1x256 .bf16) :
    View.read (Elt Ideal) (View.whole cc0_stg4_0) (h.unread X) = X := Memref.IsWhole.read_unread h X
theorem rd5 (t : Fin cfg0.N) (h : (ms0_5 t).IsWhole) (X : Vec Ideal S32x16384x2x128 .fp8e4m3) :
    View.read (Elt Ideal) (View.whole cc0_stg5_0) (h.unread X) = X := Memref.IsWhole.read_unread h X
theorem rd6 (t : Fin cfg0.N) (h : (ms0_6 t).IsWhole) (X : Vec Ideal S32x16384x2x128 .fp8e4m3) :
    View.read (Elt Ideal) (View.whole cc0_stg6_0) (h.unread X) = X := Memref.IsWhole.read_unread h X

/-! ## One head of each operand -/

theorem sc0_apply (X : Vec Ideal S2 .f32) (h) :
    View.ld X (Rect.unit ![0] ![1] inb_S2_S1_0) (Shape.Idx.first h) = X (ix1 0) :=
  View.ld_unit_apply_of X _ _ _ _ _ fun a => match a with | ⟨0, _⟩ => rfl
theorem sc1_apply (X : Vec Ideal S2 .f32) (h) :
    View.ld X (Rect.unit ![1] ![1] inb_S2_S1_1) (Shape.Idx.first h) = X (ix1 1) :=
  View.ld_unit_apply_of X _ _ _ _ _ fun a => match a with | ⟨0, _⟩ => rfl
theorem ln0_apply (X : Vec Ideal S32x1x256 .bf16) (b : Fin 32) (d : Fin 128) :
    View.ld X (Rect.unit ![0, 0, 0] ![32, 1, 128] inb_S32x1x256_S32x1x128_0_0_0) (ix3 b 0 d) = X (ix3 b 0 ⟨128 * (0 : Fin 2).val + d.val, by omega⟩) :=
  View.ld_unit_apply_of X _ _ _ _ _ fun a => match a with
    | ⟨0, _⟩ => (Nat.zero_add _).symm | ⟨1, _⟩ => rfl | ⟨2, _⟩ => rfl
theorem ln1_apply (X : Vec Ideal S32x1x256 .bf16) (b : Fin 32) (d : Fin 128) :
    View.ld X (Rect.unit ![0, 0, 128] ![32, 1, 128] inb_S32x1x256_S32x1x128_0_0_128) (ix3 b 0 d) = X (ix3 b 0 ⟨128 * (1 : Fin 2).val + d.val, by omega⟩) :=
  View.ld_unit_apply_of X _ _ _ _ _ fun a => match a with
    | ⟨0, _⟩ => (Nat.zero_add _).symm | ⟨1, _⟩ => rfl | ⟨2, _⟩ => rfl
theorem q0_apply (X : Vec Ideal S32x2x8x128 .bf16) (b : Fin 32) (g : Fin 8) (d : Fin 128) :
    View.ld X (Rect.unit ![0, 0, 0, 0] ![32, 1, 8, 128] inb_S32x2x8x128_S32x1x8x128_0_0_0_0) (ix4 b 0 g d) = X (ix4 b 0 g d) :=
  View.ld_unit_apply_of X _ _ _ _ _ fun a => match a with
    | ⟨0, _⟩ => (Nat.zero_add _).symm | ⟨1, _⟩ => rfl | ⟨2, _⟩ => (Nat.zero_add _).symm | ⟨3, _⟩ => (Nat.zero_add _).symm
theorem q1_apply (X : Vec Ideal S32x2x8x128 .bf16) (b : Fin 32) (g : Fin 8) (d : Fin 128) :
    View.ld X (Rect.unit ![0, 1, 0, 0] ![32, 1, 8, 128] inb_S32x2x8x128_S32x1x8x128_0_1_0_0) (ix4 b 0 g d) = X (ix4 b 1 g d) :=
  View.ld_unit_apply_of X _ _ _ _ _ fun a => match a with
    | ⟨0, _⟩ => (Nat.zero_add _).symm | ⟨1, _⟩ => rfl | ⟨2, _⟩ => (Nat.zero_add _).symm | ⟨3, _⟩ => (Nat.zero_add _).symm
theorem c0_apply (X : Vec Ideal S32x16384x2x128 .fp8e4m3) (b : Fin 32) (j : Fin 16384) (d : Fin 128) :
    View.ld X (Rect.unit ![0, 0, 0, 0] ![32, 16384, 1, 128] inb_S32x16384x2x128_S32x16384x1x128_0_0_0_0) (ix4 b j 0 d) = X (ix4 b j 0 d) :=
  View.ld_unit_apply_of X _ _ _ _ _ fun a => match a with
    | ⟨0, _⟩ => (Nat.zero_add _).symm | ⟨1, _⟩ => (Nat.zero_add _).symm | ⟨2, _⟩ => rfl | ⟨3, _⟩ => (Nat.zero_add _).symm
theorem c1_apply (X : Vec Ideal S32x16384x2x128 .fp8e4m3) (b : Fin 32) (j : Fin 16384) (d : Fin 128) :
    View.ld X (Rect.unit ![0, 0, 1, 0] ![32, 16384, 1, 128] inb_S32x16384x2x128_S32x16384x1x128_0_0_1_0) (ix4 b j 0 d) = X (ix4 b j 1 d) :=
  View.ld_unit_apply_of X _ _ _ _ _ fun a => match a with
    | ⟨0, _⟩ => (Nat.zero_add _).symm | ⟨1, _⟩ => (Nat.zero_add _).symm | ⟨2, _⟩ => rfl | ⟨3, _⟩ => (Nat.zero_add _).symm

/-! ## The results from the arguments -/

/-- The attention result, whole. -/
def resY (c : Dev nD) : FVec Ideal S32x16x128 .bf16 := fun i =>
  yVal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)
/-- The key codes, whole. -/
def resK (c : Dev nD) : FVec Ideal S32x1x256 .fp8e4m3 := fun i =>
  cVal (m ((c : Thread nD τ).loc main_arg1)) (m ((c : Thread nD τ).loc main_arg4)) (i 0) (i 2)
/-- The value codes, whole. -/
def resV (c : Dev nD) : FVec Ideal S32x1x256 .fp8e4m3 := fun i =>
  cVal (m ((c : Thread nD τ).loc main_arg2)) (m ((c : Thread nD τ).loc main_arg6)) (i 0) (i 2)

theorem laneHead_lane (h : Fin 2) (d : Fin 128) : laneHead (lane h d) = h := by
  apply Fin.ext; simp only [laneHead, lane]; omega
theorem laneIn_lane (h : Fin 2) (d : Fin 128) : laneIn (lane h d) = d := by
  apply Fin.ext; simp only [laneIn, lane]; omega
theorem rowHead_row (h : Fin 2) (g : Fin 8) : rowHead (row h g) = h := by
  apply Fin.ext; simp only [rowHead, row]; omega

theorem resK_apply (c : Dev nD) (b : Fin 32) (h : Fin 2) (d : Fin 128) :
    resK m c (ix3 b 0 (lane h d)) = code (m ((c : Thread nD τ).loc main_arg1) (ix4 b 0 h d)) (m ((c : Thread nD τ).loc main_arg4) (ix1 h)) := by
  show cVal _ _ b (lane h d) = _
  rw [cVal, laneHead_lane, laneIn_lane]
theorem resV_apply (c : Dev nD) (b : Fin 32) (h : Fin 2) (d : Fin 128) :
    resV m c (ix3 b 0 (lane h d)) = code (m ((c : Thread nD τ).loc main_arg2) (ix4 b 0 h d)) (m ((c : Thread nD τ).loc main_arg6) (ix1 h)) := by
  show cVal _ _ b (lane h d) = _
  rw [cVal, laneHead_lane, laneIn_lane]
theorem resY_apply (c : Dev nD) (b : Fin 32) (h : Fin 2) (g : Fin 8) (d : Fin 128) :
    resY m c (ix3 b (row h g) d) =
      attn (fun e => m ((c : Thread nD τ).loc main_arg0) (ix3 b 0 (qLane (row h g) e)))
        (fun j e => m ((c : Thread nD τ).loc main_arg3) (ix4 b j h e))
        (fun e => code (m ((c : Thread nD τ).loc main_arg1) (ix4 b 0 h e)) (m ((c : Thread nD τ).loc main_arg4) (ix1 h)))
        (m ((c : Thread nD τ).loc main_arg4) (ix1 h))
        (fun j => m ((c : Thread nD τ).loc main_arg5) (ix4 b j h d))
        (code (m ((c : Thread nD τ).loc main_arg2) (ix4 b 0 h d)) (m ((c : Thread nD τ).loc main_arg6) (ix1 h)))
        (m ((c : Thread nD τ).loc main_arg6) (ix1 h)) := by
  show yVal _ _ _ _ _ _ _ b (row h g) d = _
  rw [yVal, rowHead_row]

/-! ## What each store holds -/

/-- Equal operands have equal attentions. -/
theorem attn_congr {q q' : Fin 128 → EReal} {K K' : Fin 16384 → Fin 128 → EReal} {kc kc' : Fin 128 → EReal} {ks ks' : EReal}
    {V V' : Fin 16384 → EReal} {vn vn' vs vs' : EReal} (h1 : ∀ e, q e = q' e) (h2 : ∀ j e, K j e = K' j e) (h3 : ∀ e, kc e = kc' e)
    (h4 : ks = ks') (h5 : ∀ j, V j = V' j) (h6 : vn = vn') (h7 : vs = vs') : attn q K kc ks V vn vs = attn q' K' kc' ks' V' vn' vs' := by
  obtain rfl : q = q' := funext h1
  obtain rfl : K = K' := funext fun j => funext (h2 j)
  obtain rfl : kc = kc' := funext h3
  obtain rfl : V = V' := funext h5
  subst h4 h6 h7; rfl

/-- Head 0's key codes. -/
theorem pieceK0 (c : Dev nD) (t : Fin cfg0.N) (b : Fin 32) (d : Fin 128) (h) :
    k0_pay2 (View.ld (iblk m c 0 t : Vec Ideal S2 .f32) (Rect.unit ![0] ![1] inb_S2_S1_0) (Shape.Idx.first h))
      (View.ld (iblk m c 3 t : Vec Ideal S32x1x256 .bf16) (Rect.unit ![0, 0, 0] ![32, 1, 128] inb_S32x1x256_S32x1x128_0_0_0)) (ix3 b 0 d)
      = resK m c (ix3 b 0 (lane 0 d)) := by
  rw [pay2_apply, sc0_apply, ln0_apply, resK_apply]
  exact congrArg₂ code (blk3_apply m c t b 0 d) (blk0_apply m c t 0)
/-- Head 1's key codes. -/
theorem pieceK1 (c : Dev nD) (t : Fin cfg0.N) (b : Fin 32) (d : Fin 128) (h) :
    k0_pay7 (View.ld (iblk m c 0 t : Vec Ideal S2 .f32) (Rect.unit ![1] ![1] inb_S2_S1_1) (Shape.Idx.first h))
      (View.ld (iblk m c 3 t : Vec Ideal S32x1x256 .bf16) (Rect.unit ![0, 0, 128] ![32, 1, 128] inb_S32x1x256_S32x1x128_0_0_128)) (ix3 b 0 d)
      = resK m c (ix3 b 0 (lane 1 d)) := by
  rw [pay7_apply, sc1_apply, ln1_apply, resK_apply]
  exact congrArg₂ code (blk3_apply m c t b 1 d) (blk0_apply m c t 1)
/-- Head 0's value codes. -/
theorem pieceV0 (c : Dev nD) (t : Fin cfg0.N) (b : Fin 32) (d : Fin 128) (h) :
    k0_pay3 (View.ld (iblk m c 1 t : Vec Ideal S2 .f32) (Rect.unit ![0] ![1] inb_S2_S1_0) (Shape.Idx.first h))
      (View.ld (iblk m c 4 t : Vec Ideal S32x1x256 .bf16) (Rect.unit ![0, 0, 0] ![32, 1, 128] inb_S32x1x256_S32x1x128_0_0_0)) (ix3 b 0 d)
      = resV m c (ix3 b 0 (lane 0 d)) := by
  rw [pay3_apply, sc0_apply, ln0_apply, resV_apply]
  exact congrArg₂ code (blk4_apply m c t b 0 d) (blk1_apply m c t 0)
/-- Head 1's value codes. -/
theorem pieceV1 (c : Dev nD) (t : Fin cfg0.N) (b : Fin 32) (d : Fin 128) (h) :
    k0_pay8 (View.ld (iblk m c 1 t : Vec Ideal S2 .f32) (Rect.unit ![1] ![1] inb_S2_S1_1) (Shape.Idx.first h))
      (View.ld (iblk m c 4 t : Vec Ideal S32x1x256 .bf16) (Rect.unit ![0, 0, 128] ![32, 1, 128] inb_S32x1x256_S32x1x128_0_0_128)) (ix3 b 0 d)
      = resV m c (ix3 b 0 (lane 1 d)) := by
  rw [pay8_apply, sc1_apply, ln1_apply, resV_apply]
  exact congrArg₂ code (blk4_apply m c t b 1 d) (blk1_apply m c t 1)
/-- Head 0's attention. -/
theorem pieceY0 (c : Dev nD) (t : Fin cfg0.N) (b : Fin 32) (g : Fin 8) (d : Fin 128) (hk hv) :
    k0_pay6 (View.ld (iblk m c 0 t : Vec Ideal S2 .f32) (Rect.unit ![0] ![1] inb_S2_S1_0) (Shape.Idx.first hk))
      (View.ld (iblk m c 1 t : Vec Ideal S2 .f32) (Rect.unit ![0] ![1] inb_S2_S1_0) (Shape.Idx.first hv))
      (k0_pay2 (View.ld (iblk m c 0 t : Vec Ideal S2 .f32) (Rect.unit ![0] ![1] inb_S2_S1_0) (Shape.Idx.first hk))
        (View.ld (iblk m c 3 t : Vec Ideal S32x1x256 .bf16) (Rect.unit ![0, 0, 0] ![32, 1, 128] inb_S32x1x256_S32x1x128_0_0_0)))
      (k0_pay3 (View.ld (iblk m c 1 t : Vec Ideal S2 .f32) (Rect.unit ![0] ![1] inb_S2_S1_0) (Shape.Idx.first hv))
        (View.ld (iblk m c 4 t : Vec Ideal S32x1x256 .bf16) (Rect.unit ![0, 0, 0] ![32, 1, 128] inb_S32x1x256_S32x1x128_0_0_0)))
      (k0_pay4 (View.ld (iblk m c 2 t : Vec Ideal S32x2x8x128 .bf16) (Rect.unit ![0, 0, 0, 0] ![32, 1, 8, 128] inb_S32x2x8x128_S32x1x8x128_0_0_0_0)))
      (k0_pay5 (View.ld (iblk m c 0 t : Vec Ideal S2 .f32) (Rect.unit ![0] ![1] inb_S2_S1_0) (Shape.Idx.first hk)) (View.ld (iblk m c 5 t : Vec Ideal S32x16384x2x128 .fp8e4m3) (Rect.unit ![0, 0, 0, 0] ![32, 16384, 1, 128] inb_S32x16384x2x128_S32x16384x1x128_0_0_0_0)))
      (View.ld (iblk m c 6 t : Vec Ideal S32x16384x2x128 .fp8e4m3) (Rect.unit ![0, 0, 0, 0] ![32, 16384, 1, 128] inb_S32x16384x2x128_S32x16384x1x128_0_0_0_0)) (ix3 b g d)
      = resY m c (ix3 b (row 0 g) d) := by
  rw [y0_apply, resY_apply]
  refine attn_congr (fun e => ?_) (fun j e => ?_) (fun e => ?_) ?_ (fun j => ?_) ?_ ?_
  · exact (q0_apply _ b g e).trans (blk2_apply m c t b 0 g e)
  · exact (c0_apply _ b j e).trans (blk5_apply m c t b j 0 e)
  · rw [pay2_apply, sc0_apply, ln0_apply]
    exact congrArg₂ code (blk3_apply m c t b 0 e) (blk0_apply m c t 0)
  · exact (sc0_apply _ _).trans (blk0_apply m c t 0)
  · exact (c0_apply _ b j d).trans (blk6_apply m c t b j 0 d)
  · rw [pay3_apply, sc0_apply, ln0_apply]
    exact congrArg₂ code (blk4_apply m c t b 0 d) (blk1_apply m c t 0)
  · exact (sc0_apply _ _).trans (blk1_apply m c t 0)
/-- Head 1's attention. -/
theorem pieceY1 (c : Dev nD) (t : Fin cfg0.N) (b : Fin 32) (g : Fin 8) (d : Fin 128) (hk hv) :
    k0_pay1 (View.ld (iblk m c 0 t : Vec Ideal S2 .f32) (Rect.unit ![1] ![1] inb_S2_S1_1) (Shape.Idx.first hk))
      (View.ld (iblk m c 1 t : Vec Ideal S2 .f32) (Rect.unit ![1] ![1] inb_S2_S1_1) (Shape.Idx.first hv))
      (k0_pay7 (View.ld (iblk m c 0 t : Vec Ideal S2 .f32) (Rect.unit ![1] ![1] inb_S2_S1_1) (Shape.Idx.first hk))
        (View.ld (iblk m c 3 t : Vec Ideal S32x1x256 .bf16) (Rect.unit ![0, 0, 128] ![32, 1, 128] inb_S32x1x256_S32x1x128_0_0_128)))
      (k0_pay8 (View.ld (iblk m c 1 t : Vec Ideal S2 .f32) (Rect.unit ![1] ![1] inb_S2_S1_1) (Shape.Idx.first hv))
        (View.ld (iblk m c 4 t : Vec Ideal S32x1x256 .bf16) (Rect.unit ![0, 0, 128] ![32, 1, 128] inb_S32x1x256_S32x1x128_0_0_128)))
      (k0_pay9 (View.ld (iblk m c 2 t : Vec Ideal S32x2x8x128 .bf16) (Rect.unit ![0, 1, 0, 0] ![32, 1, 8, 128] inb_S32x2x8x128_S32x1x8x128_0_1_0_0)))
      (k0_pay10 (View.ld (iblk m c 0 t : Vec Ideal S2 .f32) (Rect.unit ![1] ![1] inb_S2_S1_1) (Shape.Idx.first hk)) (View.ld (iblk m c 2 t : Vec Ideal S32x2x8x128 .bf16) (Rect.unit ![0, 1, 0, 0] ![32, 1, 8, 128] inb_S32x2x8x128_S32x1x8x128_0_1_0_0)) (View.ld (iblk m c 5 t : Vec Ideal S32x16384x2x128 .fp8e4m3) (Rect.unit ![0, 0, 1, 0] ![32, 16384, 1, 128] inb_S32x16384x2x128_S32x16384x1x128_0_0_1_0))) k0_pay11
      (View.ld (iblk m c 6 t : Vec Ideal S32x16384x2x128 .fp8e4m3) (Rect.unit ![0, 0, 1, 0] ![32, 16384, 1, 128] inb_S32x16384x2x128_S32x16384x1x128_0_0_1_0)) (ix3 b g d)
      = resY m c (ix3 b (row 1 g) d) := by
  rw [y1_apply, resY_apply]
  refine attn_congr (fun e => ?_) (fun j e => ?_) (fun e => ?_) ?_ (fun j => ?_) ?_ ?_
  · exact (q1_apply _ b g e).trans (blk2_apply m c t b 1 g e)
  · exact (c1_apply _ b j e).trans (blk5_apply m c t b j 1 e)
  · rw [pay7_apply, sc1_apply, ln1_apply]
    exact congrArg₂ code (blk3_apply m c t b 1 e) (blk0_apply m c t 1)
  · exact (sc1_apply _ _).trans (blk0_apply m c t 1)
  · exact (c1_apply _ b j d).trans (blk6_apply m c t b j 1 d)
  · rw [pay8_apply, sc1_apply, ln1_apply]
    exact congrArg₂ code (blk4_apply m c t b 1 d) (blk1_apply m c t 1)
  · exact (sc1_apply _ _).trans (blk1_apply m c t 1)

/-! ## The arrays after the run -/

theorem final8 (c : Dev nD) : (dats m 0 c).arrAt 8 cfg0.N = resK m c := by
  refine (dats m 0 c).arrAt_eq_of_covers 8 _ (by decide +kernel) fun t hf y => ?_
  blk_simp
  rw [after0_8]
  unfold outsAt0
  dsimp only
  frame_out
  rw [rd0 t, rd3 t]
  have hemb : (win0_8.blk t).view.emb y = y := by
    blk_ext [index8 t]
  refine Eq.trans ?_ (congrArg (resK m c) hemb).symm
  clear hemb
  canon_tiles x h
  · have hx : x = ix3 (x 0) 0 (x 2) := by
      funext a; fin_cases a
      · rfl
      · exact Fin.ext (by show (x 1).val = 0; omega)
      · rfl
    have hy : y = ix3 (x 0) 0 (lane 1 (x 2)) := by
      funext a; fin_cases a
      · exact Fin.ext h0
      · exact Fin.ext (by show (y 1).val = 0; omega)
      · exact Fin.ext (by show (y 2).val = 128 * 1 + (x 2).val; omega)
    exact (congrArg _ hx).trans ((pieceK1 m c t (x 0) (x 2) _).trans (congrArg (resK m c) hy.symm))
  · have hx : x = ix3 (x 0) 0 (x 2) := by
      funext a; fin_cases a
      · rfl
      · exact Fin.ext (by show (x 1).val = 0; omega)
      · rfl
    have hy : y = ix3 (x 0) 0 (lane 0 (x 2)) := by
      funext a; fin_cases a
      · exact Fin.ext h0
      · exact Fin.ext (by show (y 1).val = 0; omega)
      · exact Fin.ext (by show (y 2).val = 128 * 0 + (x 2).val; omega)
    exact (congrArg _ hx).trans ((pieceK0 m c t (x 0) (x 2) _).trans (congrArg (resK m c) hy.symm))
theorem final9 (c : Dev nD) : (dats m 0 c).arrAt 9 cfg0.N = resV m c := by
  refine (dats m 0 c).arrAt_eq_of_covers 9 _ (by decide +kernel) fun t hf y => ?_
  blk_simp
  rw [after0_9]
  unfold outsAt0
  dsimp only
  frame_out
  rw [rd1 t, rd4 t]
  have hemb : (win0_9.blk t).view.emb y = y := by
    blk_ext [index9 t]
  refine Eq.trans ?_ (congrArg (resV m c) hemb).symm
  clear hemb
  canon_tiles x h
  · have hx : x = ix3 (x 0) 0 (x 2) := by
      funext a; fin_cases a
      · rfl
      · exact Fin.ext (by show (x 1).val = 0; omega)
      · rfl
    have hy : y = ix3 (x 0) 0 (lane 1 (x 2)) := by
      funext a; fin_cases a
      · exact Fin.ext h0
      · exact Fin.ext (by show (y 1).val = 0; omega)
      · exact Fin.ext (by show (y 2).val = 128 * 1 + (x 2).val; omega)
    exact (congrArg _ hx).trans ((pieceV1 m c t (x 0) (x 2) _).trans (congrArg (resV m c) hy.symm))
  · have hx : x = ix3 (x 0) 0 (x 2) := by
      funext a; fin_cases a
      · rfl
      · exact Fin.ext (by show (x 1).val = 0; omega)
      · rfl
    have hy : y = ix3 (x 0) 0 (lane 0 (x 2)) := by
      funext a; fin_cases a
      · exact Fin.ext h0
      · exact Fin.ext (by show (y 1).val = 0; omega)
      · exact Fin.ext (by show (y 2).val = 128 * 0 + (x 2).val; omega)
    exact (congrArg _ hx).trans ((pieceV0 m c t (x 0) (x 2) _).trans (congrArg (resV m c) hy.symm))
theorem final7 (c : Dev nD) : (dats m 0 c).arrAt 7 cfg0.N = resY m c := by
  refine (dats m 0 c).arrAt_eq_of_covers 7 _ (by decide +kernel) fun t hf y => ?_
  blk_simp
  rw [after0_7]
  unfold outsAt0
  dsimp only
  frame_out
  rw [rd0 t, rd1 t, rd2 t, rd3 t, rd4 t, rd5 t, rd6 t]
  have hemb : (win0_7.blk t).view.emb y = y := by
    blk_ext [index7 t]
  refine Eq.trans ?_ (congrArg (resY m c) hemb).symm
  clear hemb
  canon_tiles x h
  · have hx : x = ix3 (x 0) (x 1) (x 2) := by
      funext a; fin_cases a <;> rfl
    have hy : y = ix3 (x 0) (row 1 (x 1)) (x 2) := by
      funext a; fin_cases a
      · exact Fin.ext h0
      · exact Fin.ext (by show (y 1).val = 8 * 1 + (x 1).val; omega)
      · exact Fin.ext h2
    exact (congrArg _ hx).trans ((pieceY1 m c t (x 0) (x 1) (x 2) _ _).trans (congrArg (resY m c) hy.symm))
  · have hx : x = ix3 (x 0) (x 1) (x 2) := by
      funext a; fin_cases a <;> rfl
    have hy : y = ix3 (x 0) (row 0 (x 1)) (x 2) := by
      funext a; fin_cases a
      · exact Fin.ext h0
      · exact Fin.ext (by show (y 1).val = 8 * 0 + (x 1).val; omega)
      · exact Fin.ext h2
    exact (congrArg _ hx).trans ((pieceY0 m c t (x 0) (x 1) (x 2) _ _).trans (congrArg (resY m c) hy.symm))

/-- The run ends with the results from the arguments, which it leaves as they were. -/
theorem run_values : θ_run defs (onTc (τ := τ) (main (F := Ideal))) ⟨m, fun _ => 0, ρ⟩ fun r => ∀ c : Dev nD,
      r.2.mem ((c : Thread nD τ).loc main_v3_0) = resY m c
      ∧ r.2.mem ((c : Thread nD τ).loc main_v3_1) = resK m c
      ∧ r.2.mem ((c : Thread nD τ).loc main_v3_2) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2.1.trans (final9 m c), (h c).2.2.2⟩)
    (run_blocks m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.KernelIdealValue
public import proofs.«01_k».proof.Proof.ReferenceIdealValue
public import Idealize.ShloMosaic.Adequacy
public import Idealize.ShloMosaic.Init

@[expose] public section

noncomputable section

namespace Cert.Proof

open Idealize.ShloMosaic Idealize.SL.Sem Cert.Kernel

/-- At arguments that agree, the two programs' attention results are equal, -/
theorem resY_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.resY m' c = Cert.KernelIdeal.Hand.resY m c := by
  funext i
  unfold Cert.ReferenceIdeal.Hand.resY Cert.KernelIdeal.Hand.resY
  rw [h0, h1, h2, h3, h4, h5, h6]
/-- and so are the key codes -/
theorem resK_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.resK m' c = Cert.KernelIdeal.Hand.resK m c := by
  funext i
  unfold Cert.ReferenceIdeal.Hand.resK Cert.KernelIdeal.Hand.resK
  rw [h1, h4]
/-- and the value codes. -/
theorem resV_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.resV m' c = Cert.KernelIdeal.Hand.resV m c := by
  funext i
  unfold Cert.ReferenceIdeal.Hand.resV Cert.KernelIdeal.Hand.resV
  rw [h2, h6]

theorem claim : Cert.Claim := ⟨Cert.Kernel.Gen.facts, Cert.KernelIdeal.Gen.facts, Cert.ReferenceIdeal.Gen.facts, fun m ρ _ => Cert.Kernel.Hand.frame m ρ,
  fun m ρ _ => Cert.KernelIdeal.Hand.frame m ρ, fun m ρ _ => Cert.ReferenceIdeal.Gen.frame m ρ, trivial,
  fun m g m' g' _ hag => ⟨fun c => Cert.KernelIdeal.Hand.resY m c, fun c => Cert.KernelIdeal.Hand.resK m c,
    fun c => m ((c.tc : Thread Cert.KernelIdeal.nD Cert.KernelIdeal.τ).loc Cert.KernelIdeal.main_arg4),
    fun c => Cert.KernelIdeal.Hand.resV m c,
    fun c => m ((c.tc : Thread Cert.KernelIdeal.nD Cert.KernelIdeal.τ).loc Cert.KernelIdeal.main_arg6),
    (θ_run Cert.KernelIdeal.defs _ _).mono
      (fun r h c => by
        obtain ⟨y, k, v, b0, b1, b2, b3, b4, b5, b6⟩ := h c
        exact ⟨y, k, b4, v, b6, b0, b1, b2, b3, b4, b5, b6⟩)
      (Cert.KernelIdeal.Hand.run_values m g),
    (θ_run Cert.ReferenceIdeal.defs _ _).mono
      (fun r h c => by
        obtain ⟨a0, a1, a2, a3, a4, a5, a6⟩ := hag c
        obtain ⟨y, k, v, b0, b1, b2, b3, b4, b5, b6⟩ := h c
        exact ⟨y.trans (resY_eq c a0 a1 a2 a3 a4 a5 a6), k.trans (resK_eq c a1 a4), b4.trans a4, v.trans (resV_eq c a2 a6),
          b6.trans a6, b0, b1, b2, b3, b4, b5, b6⟩)
      (Cert.ReferenceIdeal.Hand.run_values m' g')⟩⟩

end Cert.Proof

end
